-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg_adj_finite_maps [hPre_nonneg_adj_finite_maps : Cert.Pre_nonneg_adj_finite_maps.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg_adj_finite_maps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg_adj_finite_maps [hPre_nonneg_adj_finite_maps : Cert.Pre_nonneg_adj_finite_maps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg_adj_finite_maps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_nonneg_adj_finite_maps [hKernelIdeal : Cert.KernelIdeal.Facts] [hPre_nonneg_adj_finite_maps : Cert.Pre_nonneg_adj_finite_maps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg_adj_finite_maps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_nonneg_adj_finite_maps [hReferenceIdeal : Cert.ReferenceIdeal.Facts] [hPre_nonneg_adj_finite_maps : Cert.Pre_nonneg_adj_finite_maps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg_adj_finite_maps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_nonneg_adj_finite_maps [hKernelIdeal : Cert.KernelIdeal.Facts] [hReferenceIdeal : Cert.ReferenceIdeal.Facts] [hPre_nonneg_adj_finite_maps : Cert.Pre_nonneg_adj_finite_maps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg_adj_finite_maps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_nonneg_adj_finite_maps : Cert.Pre_nonneg_adj_finite_maps.Facts),
    quiescent_Kernel (hKernel := hKernel)
    ∧ quiescent_KernelIdeal (hKernelIdeal := hKernelIdeal)
    ∧ quiescent_KernelIdeal_pre_nonneg_adj_finite_maps (hKernelIdeal := hKernelIdeal) (hPre_nonneg_adj_finite_maps := hPre_nonneg_adj_finite_maps)
    ∧ quiescent_ReferenceIdeal (hReferenceIdeal := hReferenceIdeal)
    ∧ quiescent_ReferenceIdeal_pre_nonneg_adj_finite_maps (hReferenceIdeal := hReferenceIdeal) (hPre_nonneg_adj_finite_maps := hPre_nonneg_adj_finite_maps)
    ∧ preserves_Kernel_KernelIdeal
    ∧ algebraic_KernelIdeal_ReferenceIdeal_pre_nonneg_adj_finite_maps (hKernelIdeal := hKernelIdeal) (hReferenceIdeal := hReferenceIdeal) (hPre_nonneg_adj_finite_maps := hPre_nonneg_adj_finite_maps)
-- ==== Pre_nonneg_adj_finite_maps.lean ====
abbrev S8x512x64x64 : Shape := ⟨4, ![8, 512, 64, 64]⟩
abbrev S64x64 : Shape := ⟨2, ![64, 64]⟩
abbrev S64 : Shape := ⟨1, ![64]⟩
abbrev S_ : Shape := ⟨0, ![]⟩

class Facts : Prop where
  bcast_S_S8x512x64x64 : S_.BroadcastsInDim S8x512x64x64 (![] : Fin 0 → Fin S8x512x64x64.rank)
  reducesTo_S8x512x64x64_S_d0_1_2_3 : S8x512x64x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v12 : IVec S_ 1) (main_v15 : IVec S64x64 1) (main_c_5 : IVec S_ 1) : IVec S_ 1 :=
  let main_v16 : IVec S_ 1 := (fun x v => Host.reduce IntOp.andi x v reducesTo_S64x64_S_d0_1 h_S_) main_v15 main_c_5
  let main_v17 : IVec S_ 1 := andi main_v12 main_v16
  main_v17

def fn {F : FTy → Type} [FloatOps F] (main_arg0 : FVec F S8x512x64x64 .f32) (main_arg1 : FVec F S64x64 .f32) (main_arg2 : FVec F S64x64 .f32) (main_arg3 : FVec F S64 .f32) (main_arg4 : FVec F S64x64 .f32) (main_arg5 : FVec F S64 .f32) : IVec S_ 1 :=
  let main_cst : FVec F S_ .f32 := constant S_ .f32 0x00000000#32
  let main_v0 : FVec F S8x512x64x64 .f32 := broadcastInDim S8x512x64x64 ![] bcast_S_S8x512x64x64 main_cst
  let main_v1 : IVec S8x512x64x64 1 := cmpf .oge main_arg0 main_v0
  let main_c : IVec S_ 1 := constantI S_ 1 1#1
  let main_v2 : IVec S_ 1 := (fun x v => Host.reduce IntOp.andi x v reducesTo_S8x512x64x64_S_d0_1_2_3 h_S_) main_v1 main_c
  let main_v3 : FVec F S64x64 .f32 := Host.absf main_arg1
  let main_cst_0 : FVec F S_ .f32 := constant S_ .f32 0x7F800000#32
  let main_v4 : FVec F S64x64 .f32 := broadcastInDim S64x64 ![] bcast_S_S64x64 main_cst_0
  let main_v5 : IVec S64x64 1 := cmpf .olt main_v3 main_v4
  let main_c_1 : IVec S_ 1 := constantI S_ 1 1#1
  let main_v6 : IVec S_ 1 := (fun x v => Host.reduce IntOp.andi x v reducesTo_S64x64_S_d0_1 h_S_) main_v5 main_c_1
  let main_v7 : IVec S_ 1 := andi main_v2 main_v6
  let main_v8 : FVec F S64x64 .f32 := Host.absf main_arg2
  let main_cst_2 : FVec F S_ .f32 := constant S_ .f32 0x7F800000#32
  let main_v9 : FVec F S64x64 .f32 := broadcastInDim S64x64 ![] bcast_S_S64x64 main_cst_2
  let main_v10 : IVec S64x64 1 := cmpf .olt main_v8 main_v9
  let main_c_3 : IVec S_ 1 := constantI S_ 1 1#1
  let main_v11 : IVec S_ 1 := (fun x v => Host.reduce IntOp.andi x v reducesTo_S64x64_S_d0_1 h_S_) main_v10 main_c_3
  let main_v12 : IVec S_ 1 := andi main_v7 main_v11
  let main_v13 : FVec F S64x64 .f32 := Host.absf main_arg4
  let main_cst_4 : FVec F S_ .f32 := constant S_ .f32 0x7F800000#32
  let main_v14 : FVec F S64x64 .f32 := broadcastInDim S64x64 ![] bcast_S_S64x64 main_cst_4
  let main_v15 : IVec S64x64 1 := cmpf .olt main_v13 main_v14
  let main_c_5 : IVec S_ 1 := constantI S_ 1 1#1
  fn_part1 (F := F) main_v12 main_v15 main_c_5
-- ==== Kernel.lean ====
abbrev S8x512x64x64 : Shape := ⟨4, ![8, 512, 64, 64]⟩
abbrev S64x64 : Shape := ⟨2, ![64, 64]⟩
abbrev S64 : Shape := ⟨1, ![64]⟩
abbrev S8x64x64x512 : Shape := ⟨4, ![8, 64, 64, 512]⟩
abbrev S1x64 : Shape := ⟨2, ![1, 64]⟩
abbrev S1x64x64x256 : Shape := ⟨4, ![1, 64, 64, 256]⟩
abbrev S4096x256 : Shape := ⟨2, ![4096, 256]⟩
abbrev S256x512 : Shape := ⟨2, ![256, 512]⟩
abbrev S8x256 : Shape := ⟨2, ![8, 256]⟩
abbrev S4096x128 : Shape := ⟨2, ![4096, 128]⟩
abbrev S64x64x128 : Shape := ⟨3, ![64, 64, 128]⟩
abbrev S64x64x256 : Shape := ⟨3, ![64, 64, 256]⟩
abbrev S4096x512 : Shape := ⟨2, ![4096, 512]⟩
abbrev S1x256 : Shape := ⟨2, ![1, 256]⟩
abbrev S64x128 : Shape := ⟨2, ![64, 128]⟩
abbrev S64x1x128 : Shape := ⟨3, ![64, 1, 128]⟩
abbrev S1x64x128 : Shape := ⟨3, ![1, 64, 128]⟩
abbrev S128x64x64 : Shape := ⟨3, ![128, 64, 64]⟩
abbrev S8192x64 : Shape := ⟨2, ![8192, 64]⟩
abbrev S1x1x64 : Shape := ⟨3, ![1, 1, 64]⟩
abbrev S64x128x64 : Shape := ⟨3, ![64, 128, 64]⟩
abbrev S1x64x64x128 : Shape := ⟨4, ![1, 64, 64, 128]⟩

abbrev nBuf : Space → Nat
  | .hbm => 11
  | .vmem => 14
  | .smem => 0
  | _ => 0

abbrev bufTy : (tb : Table) → Fin (tcTables nBuf tb) → BufTy
  | .hbm, ⟨0, _⟩ => ⟨S8x512x64x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S8x64x64x512, .f32⟩
  | .hbm, ⟨7, _⟩ => ⟨S1x64, .f32⟩
  | .hbm, ⟨8, _⟩ => ⟨S1x64, .f32⟩
  | .hbm, ⟨9, _⟩ => ⟨S8x64x64x512, .f32⟩
  | .hbm, ⟨10, _⟩ => ⟨S8x512x64x64, .f32⟩
  | .local _ .vmem, ⟨0, _⟩ => ⟨S1x64x64x256, .f32⟩
  | .local _ .vmem, ⟨1, _⟩ => ⟨S1x64x64x256, .f32⟩
  | .local _ .vmem, ⟨2, _⟩ => ⟨S64x64, .f32⟩
  | .local _ .vmem, ⟨3, _⟩ => ⟨S64x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S1x64x64x256, .f32⟩
  | .local _ .vmem, ⟨8, _⟩ => ⟨S1x64x64x256, .f32⟩
  | .local _ .vmem, ⟨9, _⟩ => ⟨S4096x256, .f32⟩
  | .local _ .vmem, ⟨10, _⟩ => ⟨S256x512, .f32⟩
  | .local _ .vmem, ⟨11, _⟩ => ⟨S8x256, .f32⟩
  | .local _ .vmem, ⟨12, _⟩ => ⟨S4096x128, .f32⟩
  | .local _ .vmem, ⟨13, _⟩ => ⟨S4096x128, .f32⟩
  | _, _ => ⟨S8x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  let c0_i32_1 : BitVec 32 := 0#32
  ![arg0.toNat, c0_i32.toNat, c0_i32_0.toNat, v0.toNat]

abbrev stage0_0 : Fin 2 → Memref sig .tc .vmem S1x64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x512x64x64 : Shape := ⟨4, ![8, 512, 64, 64]⟩
abbrev S64x64 : Shape := ⟨2, ![64, 64]⟩
abbrev S64 : Shape := ⟨1, ![64]⟩
abbrev S512x8x64x64 : Shape := ⟨4, ![512, 8, 64, 64]⟩
abbrev S_ : Shape := ⟨0, ![]⟩
abbrev S8x64x64 : Shape := ⟨3, ![8, 64, 64]⟩
abbrev S1x8x64x64 : Shape := ⟨4, ![1, 8, 64, 64]⟩
abbrev S1x1x64x64 : Shape := ⟨4, ![1, 1, 64, 64]⟩
abbrev S4096x64x64 : Shape := ⟨3, ![4096, 64, 64]⟩
abbrev S64x1 : Shape := ⟨2, ![64, 1]⟩
abbrev S64x2 : Shape := ⟨2, ![64, 2]⟩
abbrev S4096x64 : Shape := ⟨2, ![4096, 64]⟩
abbrev S4096x64x1 : Shape := ⟨3, ![4096, 64, 1]⟩
abbrev S4096x1x64 : Shape := ⟨3, ![4096, 1, 64]⟩
abbrev S1x1x64 : Shape := ⟨3, ![1, 1, 64]⟩

abbrev nBuf : Space → Nat
  | .hbm => 124
  | .vmem => 0
  | .smem => 0
  | _ => 0

abbrev bufTy : (tb : Table) → Fin (tcTables nBuf tb) → BufTy
  | .hbm, ⟨0, _⟩ => ⟨S8x512x64x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S512x8x64x64, .f32⟩
  | .hbm, ⟨7, _⟩ => ⟨S_, .f32⟩
  | .hbm, ⟨8, _⟩ => ⟨S8x64x64, .f32⟩
  | .hbm, ⟨9, _⟩ => ⟨S_, .f32⟩
  | .hbm, ⟨10, _⟩ => ⟨S512x8x64x64, .f32⟩
  | .hbm, ⟨11, _⟩ => ⟨S_, .i32⟩
  | .hbm, ⟨12, _⟩ => ⟨S512x8x64x64, .f32⟩
  | .hbm, ⟨13, _⟩ => ⟨S_, .i32⟩
  | .hbm, ⟨14, _⟩ => ⟨S8x64x64, .f32⟩
  | .hbm, ⟨15, _⟩ => ⟨S512x8x64x64, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1x8x64x64, .f32⟩
  | .hbm, ⟨26, _⟩ => ⟨S8x64x64, .f32⟩
  | .hbm, ⟨27, _⟩ => ⟨S8x64x64, .f32⟩
  | .hbm, ⟨28, _⟩ => ⟨S_, .f32⟩
  | .hbm, ⟨29, _⟩ => ⟨S8x64x64, .f32⟩
  | .hbm, ⟨30, _⟩ => ⟨S8x64x64, .f32⟩
  | .hbm, ⟨31, _⟩ => ⟨S1x8x64x64, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S512x8x64x64, .f32⟩
  | .hbm, ⟨36, _⟩ => ⟨S_, .i32⟩
  | .hbm, ⟨37, _⟩ => ⟨S_, .i32⟩
  | .hbm, ⟨38, _⟩ => ⟨S8x512x64x64, .f32⟩
  | .hbm, ⟨39, _⟩ => ⟨S1x1x64x64, .f32⟩
  | .hbm, ⟨40, _⟩ => ⟨S8x512x64x64, .f32⟩
  | .hbm, ⟨41, _⟩ => ⟨S4096x64x64, .f32⟩
  | .hbm, ⟨42, _⟩ => ⟨S4096x64x64, .f32⟩
  | .hbm, ⟨43, _⟩ => ⟨S64, .i32⟩
  | .hbm, ⟨44, _⟩ => ⟨S_, .i32⟩
  | .hbm, ⟨45, _⟩ => ⟨S64, .i32⟩
  | .hbm, ⟨46, _⟩ => ⟨S64, .i1⟩
  | .hbm, ⟨47, _⟩ => ⟨S_, .i32⟩
  | .hbm, ⟨48, _⟩ => ⟨S64, .i32⟩
  | .hbm, ⟨49, _⟩ => ⟨S64, .i32⟩
  | .hbm, ⟨50, _⟩ => ⟨S64, .i32⟩
  | .hbm, ⟨51, _⟩ => ⟨S_, .i32⟩
  | .hbm, ⟨52, _⟩ => ⟨S64, .i32⟩
  | .hbm, ⟨53, _⟩ => ⟨S64, .i1⟩
  | .hbm, ⟨54, _⟩ => ⟨S_, .i32⟩
  | .hbm, ⟨55, _⟩ => ⟨S64, .i32⟩
  | .hbm, ⟨56, _⟩ => ⟨S64, .i32⟩
  | .hbm, ⟨57, _⟩ => ⟨S64, .i32⟩
  | .hbm, ⟨58, _⟩ => ⟨S64x1, .i32⟩
  | .hbm, ⟨59, _⟩ => ⟨S64x1, .i32⟩
  | .hbm, ⟨60, _⟩ => ⟨S64x2, .i32⟩
  | .hbm, ⟨61, _⟩ => ⟨S_, .f32⟩
  | .hbm, ⟨62, _⟩ => ⟨S4096x64, .f32⟩
  | .hbm, ⟨63, _⟩ => ⟨S4096x64x64, .f32⟩
  | .hbm, ⟨64, _⟩ => ⟨S4096x64x64, .f32⟩
  | .hbm, ⟨65, _⟩ => ⟨S_, .f32⟩
  | .hbm, ⟨66, _⟩ => ⟨S4096x64, .f32⟩
  | .hbm, ⟨67, _⟩ => ⟨S_, .f32⟩
  | .hbm, ⟨68, _⟩ => ⟨S4096x64, .f32⟩
  | .hbm, ⟨69, _⟩ => ⟨S4096x64, .f32⟩
  | .hbm, ⟨70, _⟩ => ⟨S_, .f32⟩
  | .hbm, ⟨71, _⟩ => ⟨S4096x64, .f32⟩
  | .hbm, ⟨72, _⟩ => ⟨S4096x64, .f32⟩
  | .hbm, ⟨73, _⟩ => ⟨S4096x64x1, .f32⟩
  | .hbm, ⟨74, _⟩ => ⟨S4096x64x64, .f32⟩
  | .hbm, ⟨75, _⟩ => ⟨S4096x64x64, .f32⟩
  | .hbm, ⟨76, _⟩ => ⟨S4096x1x64, .f32⟩
  | .hbm, ⟨77, _⟩ => ⟨S4096x64x64, .f32⟩
  | .hbm, ⟨78, _⟩ => ⟨S4096x64x64, .f32⟩
  | .hbm, ⟨79, _⟩ => ⟨S4096x64x64, .f32⟩
  | .hbm, ⟨80, _⟩ => ⟨S1x1x64, .f32⟩
  | .hbm, ⟨81, _⟩ => ⟨S4096x64x64, .f32⟩
  | .hbm, ⟨82, _⟩ => ⟨S4096x64x64, .f32⟩
  | .hbm, ⟨83, _⟩ => ⟨S64, .i32⟩
  | .hbm, ⟨84, _⟩ => ⟨S_, .i32⟩
  | .hbm, ⟨85, _⟩ => ⟨S64, .i32⟩
  | .hbm, ⟨86, _⟩ => ⟨S64, .i1⟩
  | .hbm, ⟨87, _⟩ => ⟨S_, .i32⟩
  | .hbm, ⟨88, _⟩ => ⟨S64, .i32⟩
  | .hbm, ⟨89, _⟩ => ⟨S64, .i32⟩
  | .hbm, ⟨90, _⟩ => ⟨S64, .i32⟩
  | .hbm, ⟨91, _⟩ => ⟨S_, .i32⟩
  | .hbm, ⟨92, _⟩ => ⟨S64, .i32⟩
  | .hbm, ⟨93, _⟩ => ⟨S64, .i1⟩
  | .hbm, ⟨94, _⟩ => ⟨S_, .i32⟩
  | .hbm, ⟨95, _⟩ => ⟨S64, .i32⟩
  | .hbm, ⟨96, _⟩ => ⟨S64, .i32⟩
  | .hbm, ⟨97, _⟩ => ⟨S64, .i32⟩
  | .hbm, ⟨98, _⟩ => ⟨S64x1, .i32⟩
  | .hbm, ⟨99, _⟩ => ⟨S64x1, .i32⟩
  | .hbm, ⟨100, _⟩ => ⟨S64x2, .i32⟩
  | .hbm, ⟨101, _⟩ => ⟨S_, .f32⟩
  | .hbm, ⟨102, _⟩ => ⟨S4096x64, .f32⟩
  | .hbm, ⟨103, _⟩ => ⟨S4096x64x64, .f32⟩
  | .hbm, ⟨104, _⟩ => ⟨S4096x64x64, .f32⟩
  | .hbm, ⟨105, _⟩ => ⟨S_, .f32⟩
  | .hbm, ⟨106, _⟩ => ⟨S4096x64, .f32⟩
  | .hbm, ⟨107, _⟩ => ⟨S_, .f32⟩
  | .hbm, ⟨108, _⟩ => ⟨S4096x64, .f32⟩
  | .hbm, ⟨109, _⟩ => ⟨S4096x64, .f32⟩
  | .hbm, ⟨110, _⟩ => ⟨S_, .f32⟩
  | .hbm, ⟨111, _⟩ => ⟨S4096x64, .f32⟩
  | .hbm, ⟨112, _⟩ => ⟨S4096x64, .f32⟩
  | .hbm, ⟨113, _⟩ => ⟨S4096x64x1, .f32⟩
  | .hbm, ⟨114, _⟩ => ⟨S4096x64x64, .f32⟩
  | .hbm, ⟨115, _⟩ => ⟨S4096x64x64, .f32⟩
  | .hbm, ⟨116, _⟩ => ⟨S4096x1x64, .f32⟩
  | .hbm, ⟨117, _⟩ => ⟨S4096x64x64, .f32⟩
  | .hbm, ⟨118, _⟩ => ⟨S4096x64x64, .f32⟩
  | .hbm, ⟨119, _⟩ => ⟨S4096x64x64, .f32⟩
  | .hbm, ⟨120, _⟩ => ⟨S1x1x64, .f32⟩
  | .hbm, ⟨121, _⟩ => ⟨S4096x64x64, .f32⟩
  | .hbm, ⟨122, _⟩ => ⟨S4096x64x64, .f32⟩
  | .hbm, ⟨123, _⟩ => ⟨S8x512x64x64, .f32⟩
  | _, _ => ⟨S8x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_c : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_while0c_c_20 : Ref sig .tc := ⟨.hbm, 16, rfl⟩
abbrev main_while0c_v74 : Ref sig .tc := ⟨.hbm, 17, rfl⟩
abbrev main_while0b_c_20 : Ref sig .tc := ⟨.hbm, 18, rfl⟩
abbrev main_while0b_v74 : Ref sig .tc := ⟨.hbm, 19, rfl⟩
abbrev main_while0b_c_21 : Ref sig .tc := ⟨.hbm, 20, rfl⟩
abbrev main_while0b_v75 : Ref sig .tc := ⟨.hbm, 21, rfl⟩
abbrev main_while0b_call0_c : Ref sig .tc := ⟨.hbm, 22, rfl⟩
abbrev main_while0b_call0_c_0 : Ref sig .tc := ⟨.hbm, 23, rfl⟩
abbrev main_while0b_call0_c_1 : Ref sig .tc := ⟨.hbm, 24, rfl⟩
abbrev main_while0b_call0_v0 : Ref sig .tc := ⟨.hbm, 25, rfl⟩
abbrev main_while0b_v76 : Ref sig .tc := ⟨.hbm, 26, rfl⟩
abbrev main_while0b_v77 : Ref sig .tc := ⟨.hbm, 27, rfl⟩
abbrev main_while0b_cst_22 : Ref sig .tc := ⟨.hbm, 28, rfl⟩
abbrev main_while0b_v78 : Ref sig .tc := ⟨.hbm, 29, rfl⟩
abbrev main_while0b_v79 : Ref sig .tc := ⟨.hbm, 30, rfl⟩
abbrev main_while0b_call1_v0 : Ref sig .tc := ⟨.hbm, 31, rfl⟩
abbrev main_while0b_call1_c : Ref sig .tc := ⟨.hbm, 32, rfl⟩
abbrev main_while0b_call1_c_0 : Ref sig .tc := ⟨.hbm, 33, rfl⟩
abbrev main_while0b_call1_c_1 : Ref sig .tc := ⟨.hbm, 34, rfl⟩
abbrev main_while0b_v80 : Ref sig .tc := ⟨.hbm, 35, rfl⟩
abbrev main_while0b_c_23 : Ref sig .tc := ⟨.hbm, 36, rfl⟩
abbrev main_while0b_v81 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_c_1 : Ref sig .tc := ⟨.hbm, 44, rfl⟩
abbrev main_v10 : Ref sig .tc := ⟨.hbm, 45, rfl⟩
abbrev main_v11 : Ref sig .tc := ⟨.hbm, 46, rfl⟩
abbrev main_c_2 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_c_3 : Ref sig .tc := ⟨.hbm, 51, rfl⟩
abbrev main_v15 : Ref sig .tc := ⟨.hbm, 52, rfl⟩
abbrev main_v16 : Ref sig .tc := ⟨.hbm, 53, rfl⟩
abbrev main_c_4 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_5 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_6 : Ref sig .tc := ⟨.hbm, 65, rfl⟩
abbrev main_v26 : Ref sig .tc := ⟨.hbm, 66, rfl⟩
abbrev main_cst_7 : Ref sig .tc := ⟨.hbm, 67, rfl⟩
abbrev main_v27 : Ref sig .tc := ⟨.hbm, 68, rfl⟩
abbrev main_v28 : Ref sig .tc := ⟨.hbm, 69, rfl⟩
abbrev main_cst_8 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_9 : Ref sig .tc := ⟨.hbm, 84, rfl⟩
abbrev main_v42 : Ref sig .tc := ⟨.hbm, 85, rfl⟩
abbrev main_v43 : Ref sig .tc := ⟨.hbm, 86, rfl⟩
abbrev main_c_10 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_c_11 : Ref sig .tc := ⟨.hbm, 91, rfl⟩
abbrev main_v47 : Ref sig .tc := ⟨.hbm, 92, rfl⟩
abbrev main_v48 : Ref sig .tc := ⟨.hbm, 93, rfl⟩
abbrev main_c_12 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_13 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_14 : Ref sig .tc := ⟨.hbm, 105, rfl⟩
abbrev main_v58 : Ref sig .tc := ⟨.hbm, 106, rfl⟩
abbrev main_cst_15 : Ref sig .tc := ⟨.hbm, 107, rfl⟩
abbrev main_v59 : Ref sig .tc := ⟨.hbm, 108, rfl⟩
abbrev main_v60 : Ref sig .tc := ⟨.hbm, 109, rfl⟩
abbrev main_cst_16 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩

abbrev nD : Nat := 1
abbrev τ : Topo := Topo.v7x

variable {F : FTy → Type} [FloatOps F]

abbrev main_while0_count : Scf.Loop 32 := ⟨0#32, 512#32, 1#32⟩
-- ==== Proof.RefRun.lean ====
module

public import proofs.«01_k».proof.Proof.Gen.ReferenceIdeal.Run
public import proofs.«01_k».proof.Proof.Gen.ReferenceIdeal.Step

@[expose] public section

/-! The reference's run as its trip's function iterated 512 times: what the loop's buffers hold before
    trip `n` is state number `n`, and the result is the last stretch's value of state number 512. -/

set_option maxRecDepth 65536

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State)

variable {F : FTy → Type} [FloatOps F]
variable {V0 : Valuation τ sig (Elt F)} {s : State F} {j : ℕ}

/-- The loop's buffers hold the state `s`, and its counter the number `j`. -/
structure Carries (V0 : Valuation τ sig (Elt F)) (s : State F) (j : ℕ) : Prop where
  carry : V0 (Proc.devRef .tc main_v3_2) = s.main_v3_2
  rows : V0 (Proc.devRef .tc main_v3_3) = s.main_v3_3
  input : V0 (Proc.devRef .tc main_v3_0) = s.main_v3_0
  count : V0 (Proc.devRef .tc main_v3_1) = constantI S_ 32 (BitVec.ofNat 32 j)

/-- The carried row a trip leaves. -/
theorem carry_step (h : Carries V0 s j) : step_main_v3_2 V0 = (Step.step j s).main_v3_2 := by
  unfold step_main_v3_2 res_main_while0b_v79 res_main_while0b_v75
  rw [h.carry, h.input, h.count]
  rfl

/-- The rows a trip leaves, one of them overwritten. -/
theorem rows_step (h : Carries V0 s j) : step_main_v3_3 V0 = (Step.step j s).main_v3_3 := by
  unfold step_main_v3_3 res_main_while0b_v79 res_main_while0b_v75
  rw [h.carry, h.rows, h.input, h.count]
  rfl

/-- The counter a trip leaves. -/
theorem count_step (h : Carries V0 s j) : step_main_v3_1 V0 = constantI S_ 32 (BitVec.ofNat 32 (j + 1)) := by
  unfold step_main_v3_1
  rw [h.count]
  funext i
  show BitVec.ofNat 32 j + 1#32 = BitVec.ofNat 32 (j + 1)
  rw [BitVec.ofNat_add]

/-- One trip takes state `s` to the next state. -/
theorem carries_step (h : Carries V0 s j) : Carries (STEP V0) (Step.step j s) (j + 1) where
  carry := (STEP_main_v3_2 V0).trans (carry_step h)
  rows := (STEP_main_v3_3 V0).trans (rows_step h)
  input := (STEP_main_v3_0 V0).trans h.input
  count := (STEP_main_v3_1 V0).trans (count_step h)

/-- State number `n`, from the first argument. -/
def state (a : (⟨S8x512x64x64, .f32⟩ : BufTy).Contents (Elt F)) : ℕ → State F
  | 0 => Step.init a
  | n + 1 => Step.step n (state a n)

variable (m : (ℓ : Loc nD τ sig) → Buf (Elt F) ℓ) (ρ : Dev nD → PrngReg)

/-- Before the first trip the buffers hold state 0. -/
theorem carries_entry (c : Dev nD) : Carries (entryContents preI m c) (state (m ((c.tc : Thread nD τ).loc main_arg0)) 0) 0 := by
  constructor <;> (simp only [entryContents, afterL_cons, afterL_nil]; after_reads_simp) <;> rfl

/-- Before trip `n` they hold state `n`. -/
theorem carries_iter (c : Dev nD) : ∀ n, Carries (STEP^[n] (entryContents preI m c)) (state (m ((c.tc : Thread nD τ).loc main_arg0)) n) n
  | 0 => carries_entry m c
  | n + 1 => by
    rw [Function.iterate_succ_apply']
    exact carries_step (carries_iter c n)

/-- The last stretch's value of a valuation that holds a state and the arguments. -/
theorem out_eq (h : Carries V0 s j) {x1 x2 x4 : (⟨S64x64, .f32⟩ : BufTy).Contents (Elt F)} {x3 x5 : (⟨S64, .f32⟩ : BufTy).Contents (Elt F)}
    (h1 : V0 (Proc.devRef .tc main_arg1) = x1) (h2 : V0 (Proc.devRef .tc main_arg2) = x2) (h3 : V0 (Proc.devRef .tc main_arg3) = x3)
    (h4 : V0 (Proc.devRef .tc main_arg4) = x4) (h5 : V0 (Proc.devRef .tc main_arg5) = x5) :
    out_main_v73 V0 = Step.R_main_v73 s x1 x2 x3 x4 x5 := by
  unfold out_main_v73 Step.R_main_v73
  rw [h.rows, h1, h2, h3, h4, h5]
  rfl

/-- Every run of the reference ends with its result the last stretch's value of state 512, the arguments unchanged. -/
theorem run : θ_run (defs (F := F)) (onTc (τ := τ) (main (F := F))) ⟨m, fun _ => 0, ρ⟩ fun r => ∀ c : Dev nD,
      r.2.mem ((c.tc : Thread nD τ).loc main_v73) = Step.R_main_v73 (state (m ((c.tc : Thread nD τ).loc main_arg0)) 512) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c).1.trans (out_eq (carries_iter m c 512) (iter_main_arg1 m c 512) (iter_main_arg2 m c 512) (iter_main_arg3 m c 512)
      (iter_main_arg4 m c 512) (iter_main_arg5 m c 512)), (h c).2⟩) (Value.run m ρ)

end Cert.ReferenceIdeal.Trips
-- ==== Proof.KPoint.lean ====
module

public import proofs.«01_k».proof.Proof.Gen.KernelIdeal.Frame
public import Idealize.ShloMosaic.Lib.Pipeline.Value
public import Idealize.ShloMosaic.Lib.Tactic

@[expose] public section

/-! What one grid point leaves in its buffers, as one function of what it loads. The three kinds of point differ
    only in where the tables and the carry come from. -/

noncomputable section

namespace Cert.KernelIdeal.Point

open Idealize.ShloMosaic Idealize.ShloMosaic.TcCoe Idealize.SL.Sem Cert.KernelIdeal Cert.KernelIdeal.Gen

variable {F : FTy → Type} [FloatOps F]

theorem zero2 : (![0, 0] : Fin 2 → Nat) = fun _ => 0 := funext fun a => by fin_cases a <;> rfl
theorem zero4 : (![0, 0, 0, 0] : Fin 4 → Nat) = fun _ => 0 := funext fun a => by fin_cases a <;> rfl

/-- The first row of the table of fading factors. -/
def fadeRow (d : Vec F S8x256 .f32) : Vec F S1x256 .f32 :=
  View.ld d (Rect.unit (s := S8x256) ![0, 0] S1x256.size inb_S8x256_S1x256_0_0)

/-- The output block of one point: its two stored halves. -/
def block (x0 : Vec F S1x64x64x256 .f32) (x1 x2 : Vec F S64x64 .f32) (x3 : Vec F S1x64 .f32) (x4 : Vec F S64x64 .f32) (x5 : Vec F S1x64 .f32)
    (carry : Vec F S4096x256 .f32) (m : Vec F S256x512 .f32) (d : Vec F S8x256 .f32) (ne e : Vec F S4096x128 .f32) : Vec F S1x64x64x256 .f32 :=
  View.canon (Val := Elt F)
    [⟨Rect.unit (s := S1x64x64x256) ![0, 0, 0, 128] S1x64x64x128.size inb_S1x64x64x256_S1x64x64x128_0_0_0_128,
        k0_pay1 (k0_pay9 x1 x2 x4) (k0_pay10 x3 x4) (k0_pay14 (k0_pay12 x0 m) carry (k0_pay13 (fadeRow d))) ne e x5⟩,
      ⟨Rect.unit (s := S1x64x64x256) ![0, 0, 0, 0] S1x64x64x128.size inb_S1x64x64x256_S1x64x64x128_0_0_0_0,
        k0_pay16 (k0_pay9 x1 x2 x4) (k0_pay10 x3 x4) (k0_pay12 x0 m) carry (k0_pay13 (fadeRow d)) ne e x5⟩]

variable (c : Dev nD) (i : grid0.Coords) (a2 : Memref sig .tc .vmem S1x64x64x256 .f32) (h2 : a2.IsWhole)
  (a3 : Memref sig .tc .vmem S64x64 .f32) (h3 : a3.IsWhole) (a4 : Memref sig .tc .vmem S64x64 .f32) (h4 : a4.IsWhole)
  (a5 : Memref sig .tc .vmem S1x64 .f32) (h5 : a5.IsWhole) (a6 : Memref sig .tc .vmem S64x64 .f32) (h6 : a6.IsWhole)
  (a7 : Memref sig .tc .vmem S1x64 .f32) (h7 : a7.IsWhole) (a8 : Memref sig .tc .vmem S1x64x64x256 .f32) (h8 : a8.IsWhole)
  (a9 : Memref sig .tc .vmem S4096x256 .f32) (h9 : a9.IsWhole) (a10 : Memref sig .tc .vmem S256x512 .f32) (h10 : a10.IsWhole)
  (a11 : Memref sig .tc .vmem S8x256 .f32) (h11 : a11.IsWhole) (a12 : Memref sig .tc .vmem S4096x128 .f32) (h12 : a12.IsWhole)
  (a13 : Memref sig .tc .vmem S4096x128 .f32) (h13 : a13.IsWhole)
  (x0 : Vec F S1x64x64x256 .f32) (x1 x2 : Vec F S64x64 .f32) (x3 : Vec F S1x64 .f32) (x4 : Vec F S64x64 .f32) (x5 : Vec F S1x64 .f32)
  (xs0 : Vec F S4096x256 .f32) (xs1 : Vec F S256x512 .f32) (xs2 : Vec F S8x256 .f32) (xs3 xs4 : Vec F S4096x128 .f32)

/-- A point on a sequence's first chunk: it uses the carry and the tables it finds. -/
theorem out_B (hc0 : ¬cond0_0 i) (hc1 : ¬cond0_1 i) :
    out0_B_6 c i a2 h2 a3 h3 a4 h4 a5 h5 a6 h6 a7 h7 a8 h8 a9 h9 a10 h10 a11 h11 a12 h12 a13 h13 hc0 hc1 x0 x1 x2 x3 x4 x5 xs0 xs1 xs2 xs3 xs4
      = block x0 x1 x2 x3 x4 x5 xs0 xs1 xs2 xs3 xs4 := by
  unfold out0_B_6
  rw [View.read_writes_eq_canon _ _ _ (cover0_B_6 c i a2 h2 a3 h3 a4 h4 a5 h5 a6 h6 a7 h7 a8 h8 a9 h9 a10 h10 a11 h11 a12 h12 a13 h13 hc0 hc1 x0 x1 x2 x3 x4 x5 xs0 xs1 xs2 xs3 xs4)]
  unfold kernelRun0_B block fadeRow
  dsimp only
  sl_unfold_words
  simp only [View.readAt_eq_ld, h2.read_unread, h3.read_unread, h4.read_unread, h5.read_unread, h6.read_unread, h7.read_unread,
    h9.read_unread, h10.read_unread, h11.read_unread, h12.read_unread, h13.read_unread,
    View.ld_unit_zero (S := S64x64) zero2, View.ld_unit_zero (S := S1x64) zero2, View.ld_unit_zero (S := S4096x256) zero2,
    View.ld_unit_zero (S := S256x512) zero2, View.ld_unit_zero (S := S4096x128) zero2, View.ld_unit_zero (S := S1x64x64x256) zero4]

/-- A point on a later sequence's last chunk: the carry starts at 0. -/
theorem out_C (hc0 : ¬cond0_0 i) (hc1 : cond0_1 i) :
    out0_C_6 c i a2 h2 a3 h3 a4 h4 a5 h5 a6 h6 a7 h7 a8 h8 a9 h9 a10 h10 a11 h11 a12 h12 a13 h13 hc0 hc1 x0 x1 x2 x3 x4 x5 xs1 xs2 xs3 xs4
      = block x0 x1 x2 x3 x4 x5 k0_pay8 xs1 xs2 xs3 xs4 := by
  unfold out0_C_6
  rw [View.read_writes_eq_canon _ _ _ (cover0_C_6 c i a2 h2 a3 h3 a4 h4 a5 h5 a6 h6 a7 h7 a8 h8 a9 h9 a10 h10 a11 h11 a12 h12 a13 h13 hc0 hc1 x0 x1 x2 x3 x4 x5 xs1 xs2 xs3 xs4)]
  unfold kernelRun0_C block fadeRow
  dsimp only
  sl_unfold_words
  simp only [View.readAt_eq_ld, h2.read_unread, h3.read_unread, h4.read_unread, h5.read_unread, h6.read_unread, h7.read_unread,
    h9.read_unread, h10.read_unread, h11.read_unread, h12.read_unread, h13.read_unread, View.readCov_unit_zero (S := S4096x256) _ zero2,
    View.ld_unit_zero (S := S64x64) zero2, View.ld_unit_zero (S := S1x64) zero2, View.ld_unit_zero (S := S4096x256) zero2,
    View.ld_unit_zero (S := S256x512) zero2, View.ld_unit_zero (S := S4096x128) zero2, View.ld_unit_zero (S := S1x64x64x256) zero4]

/-- The first point: it writes the tables itself, and the carry starts at 0. -/
theorem out_A (hc0 : cond0_0 i) (hc1 : cond0_1 i) :
    out0_A_6 c i a2 h2 a3 h3 a4 h4 a5 h5 a6 h6 a7 h7 a8 h8 a9 h9 a10 h10 a11 h11 a12 h12 a13 h13 hc0 hc1 x0 x1 x2 x3 x4 x5
      = block x0 x1 x2 x3 x4 x5 k0_pay8 k0_pay2 k0_pay3 k0_pay5 (k0_pay7 k0_pay6) := by
  unfold out0_A_6
  rw [View.read_writes_eq_canon _ _ _ (cover0_A_6 c i a2 h2 a3 h3 a4 h4 a5 h5 a6 h6 a7 h7 a8 h8 a9 h9 a10 h10 a11 h11 a12 h12 a13 h13 hc0 hc1 x0 x1 x2 x3 x4 x5)]
  unfold kernelRun0_A block fadeRow
  dsimp only
  sl_unfold_words
  simp only [View.readAt_eq_ld, h2.read_unread, h3.read_unread, h4.read_unread, h5.read_unread, h6.read_unread, h7.read_unread,
    View.readCov_unit_zero (S := S4096x256) _ zero2, View.readCov_unit_zero (S := S256x512) _ zero2, View.readCov_unit_zero (S := S4096x128) _ zero2,
    View.ld_unit_zero (S := S64x64) zero2, View.ld_unit_zero (S := S1x64) zero2, View.ld_unit_zero (S := S4096x256) zero2,
    View.ld_unit_zero (S := S256x512) zero2, View.ld_unit_zero (S := S4096x128) zero2, View.ld_unit_zero (S := S1x64x64x256) zero4]
  rw [View.readCov_eq_canon', View.canon_unit_zero (S := S8x256) zero2]

/-- The carry a last chunk leaves: the product's columns from 256 on. -/
theorem carry_C (hc0 : ¬cond0_0 i) (hc1 : cond0_1 i) :
    sout0_C_0 c i a2 h2 a3 h3 a4 h4 a5 h5 a6 h6 a7 h7 a8 h8 a9 h9 a10 h10 a11 h11 a12 h12 a13 h13 hc0 hc1 x0 x1 x2 x3 x4 x5 xs1 xs2 xs3 xs4
      = k0_pay15 (k0_pay11 x0 xs1) := by
  unfold sout0_C_0
  rw [View.read_writes_eq_canon _ _ _ (scover0_C_0 c i a2 h2 a3 h3 a4 h4 a5 h5 a6 h6 a7 h7 a8 h8 a9 h9 a10 h10 a11 h11 a12 h12 a13 h13 hc0 hc1 x0 x1 x2 x3 x4 x5 xs1 xs2 xs3 xs4)]
  unfold kernelRun0_C
  dsimp only
  sl_unfold_words
  rw [View.canon_cons_unit_zero (S := S4096x256) zero2]
  simp only [View.readAt_eq_ld, h2.read_unread, h10.read_unread, View.ld_unit_zero (S := S256x512) zero2, View.ld_unit_zero (S := S1x64x64x256) zero4]

/-- The same at the first point. -/
theorem carry_A (hc0 : cond0_0 i) (hc1 : cond0_1 i) :
    sout0_A_0 c i a2 h2 a3 h3 a4 h4 a5 h5 a6 h6 a7 h7 a8 h8 a9 h9 a10 h10 a11 h11 a12 h12 a13 h13 hc0 hc1 x0 x1 x2 x3 x4 x5
      = k0_pay15 (k0_pay11 x0 k0_pay2) := by
  unfold sout0_A_0
  rw [View.read_writes_eq_canon _ _ _ (scover0_A_0 c i a2 h2 a3 h3 a4 h4 a5 h5 a6 h6 a7 h7 a8 h8 a9 h9 a10 h10 a11 h11 a12 h12 a13 h13 hc0 hc1 x0 x1 x2 x3 x4 x5)]
  unfold kernelRun0_A
  dsimp only
  sl_unfold_words
  rw [View.canon_cons_unit_zero (S := S4096x256) zero2]
  simp only [View.readAt_eq_ld, h2.read_unread, View.readCov_unit_zero (S := S256x512) _ zero2, View.ld_unit_zero (S := S256x512) zero2, View.ld_unit_zero (S := S1x64x64x256) zero4]

/-- The tables the first point leaves. -/
theorem decay_A (hc0 : cond0_0 i) (hc1 : cond0_1 i) :
    sout0_A_1 c i a2 h2 a3 h3 a4 h4 a5 h5 a6 h6 a7 h7 a8 h8 a9 h9 a10 h10 a11 h11 a12 h12 a13 h13 hc0 hc1 x0 x1 x2 x3 x4 x5 = k0_pay2 := by
  unfold sout0_A_1
  rw [View.read_writes_eq_canon _ _ _ (scover0_A_1 c i a2 h2 a3 h3 a4 h4 a5 h5 a6 h6 a7 h7 a8 h8 a9 h9 a10 h10 a11 h11 a12 h12 a13 h13 hc0 hc1 x0 x1 x2 x3 x4 x5)]
  unfold kernelRun0_A
  dsimp only
  sl_unfold_words
  rw [View.canon_cons_unit_zero (S := S256x512) zero2]

theorem fade_A (hc0 : cond0_0 i) (hc1 : cond0_1 i) :
    sout0_A_2 c i a2 h2 a3 h3 a4 h4 a5 h5 a6 h6 a7 h7 a8 h8 a9 h9 a10 h10 a11 h11 a12 h12 a13 h13 hc0 hc1 x0 x1 x2 x3 x4 x5 = k0_pay3 := by
  unfold sout0_A_2
  rw [View.read_writes_eq_canon _ _ _ (scover0_A_2 c i a2 h2 a3 h3 a4 h4 a5 h5 a6 h6 a7 h7 a8 h8 a9 h9 a10 h10 a11 h11 a12 h12 a13 h13 hc0 hc1 x0 x1 x2 x3 x4 x5)]
  unfold kernelRun0_A
  dsimp only
  sl_unfold_words
  rw [View.canon_cons_unit_zero (S := S8x256) zero2]

theorem off_A (hc0 : cond0_0 i) (hc1 : cond0_1 i) :
    sout0_A_3 c i a2 h2 a3 h3 a4 h4 a5 h5 a6 h6 a7 h7 a8 h8 a9 h9 a10 h10 a11 h11 a12 h12 a13 h13 hc0 hc1 x0 x1 x2 x3 x4 x5 = k0_pay5 := by
  unfold sout0_A_3
  rw [View.read_writes_eq_canon _ _ _ (scover0_A_3 c i a2 h2 a3 h3 a4 h4 a5 h5 a6 h6 a7 h7 a8 h8 a9 h9 a10 h10 a11 h11 a12 h12 a13 h13 hc0 hc1 x0 x1 x2 x3 x4 x5)]
  unfold kernelRun0_A
  dsimp only
  sl_unfold_words
  rw [View.canon_cons_unit_zero (S := S4096x128) zero2]

theorem diag_A (hc0 : cond0_0 i) (hc1 : cond0_1 i) :
    sout0_A_4 c i a2 h2 a3 h3 a4 h4 a5 h5 a6 h6 a7 h7 a8 h8 a9 h9 a10 h10 a11 h11 a12 h12 a13 h13 hc0 hc1 x0 x1 x2 x3 x4 x5 = k0_pay7 k0_pay6 := by
  unfold sout0_A_4
  rw [View.read_writes_eq_canon _ _ _ (scover0_A_4 c i a2 h2 a3 h3 a4 h4 a5 h5 a6 h6 a7 h7 a8 h8 a9 h9 a10 h10 a11 h11 a12 h12 a13 h13 hc0 hc1 x0 x1 x2 x3 x4 x5)]
  unfold kernelRun0_A
  dsimp only
  sl_unfold_words
  rw [View.canon_cons_unit_zero (S := S4096x128) zero2]

end Cert.KernelIdeal.Point
-- ==== Proof.KState.lean ====
module

public import proofs.«01_k».proof.Proof.KPoint

@[expose] public section

/-! What the buffers hold after each grid point: the tables are the first point's, the carry of an even point is what
    its successor uses, and the output block is `Point.block` of both. -/

noncomputable section

namespace Cert.KernelIdeal.Final

open Idealize.ShloMosaic Idealize.ShloMosaic.TcCoe Idealize.SL.Sem Cert.KernelIdeal Cert.KernelIdeal.Gen Cert.KernelIdeal.Point

variable {F : FTy → Type} [FloatOps F]
variable (m : (ℓ : Loc nD τ sig) → Buf (Elt F) ℓ)

/-- The tables after any point. -/
theorem tables (c : Dev nD) : ∀ (n : ℕ) (h : n < cfg0.N), (outsAt0 m c n h).2.2 = (k0_pay2, k0_pay3, k0_pay5, k0_pay7 k0_pay6)
  | 0, h => by
    rw [outsAt0_A m c ⟨0, h⟩ rfl rfl]
    dsimp only
    rw [decay_A, fade_A, off_A, diag_A]
  | n + 1, h => by
    have hN : n + 1 < 16 := lt_of_lt_of_eq h (show cfg0.N = 16 from N_0)
    have ih := tables c n (Nat.lt_of_succ_lt h)
    have h0 : ¬(⟨n + 1, h⟩ : Fin cfg0.N).val % 16 = 0 := by dsimp only; omega
    by_cases h1 : (⟨n + 1, h⟩ : Fin cfg0.N).val % 2 = 0
    · rw [outsAt0_C m c ⟨n + 1, h⟩ h0 h1]
      exact ih
    · rw [outsAt0_B m c ⟨n + 1, h⟩ h0 h1]
      exact ih

/-- The output block of an even point. -/
theorem out_even (c : Dev nD) (t : Fin cfg0.N) (h1 : t.val % 2 = 0) :
    (outsAt0 m c t.val t.isLt).1 = block (iblk m c 0 t) (iblk m c 1 t) (iblk m c 2 t) (iblk m c 3 t) (iblk m c 4 t) (iblk m c 5 t)
      k0_pay8 k0_pay2 k0_pay3 k0_pay5 (k0_pay7 k0_pay6) := by
  by_cases h0 : t.val % 16 = 0
  · rw [outsAt0_A m c t h0 h1]
    dsimp only
    rw [out_A]
  · rw [outsAt0_C m c t h0 h1]
    dsimp only
    rw [out_C, tables m c]

/-- The carry an even point leaves. -/
theorem carry_even (c : Dev nD) (t : Fin cfg0.N) (h1 : t.val % 2 = 0) :
    (outsAt0 m c t.val t.isLt).2.1 = k0_pay15 (k0_pay11 (iblk m c 0 t) k0_pay2) := by
  by_cases h0 : t.val % 16 = 0
  · rw [outsAt0_A m c t h0 h1]
    dsimp only
    rw [carry_A]
  · rw [outsAt0_C m c t h0 h1]
    dsimp only
    rw [carry_C, tables m c]

/-- The output block of an odd point: it uses the carry of the point before. -/
theorem out_odd (c : Dev nD) (t : Fin cfg0.N) (h1 : ¬t.val % 2 = 0) :
    (outsAt0 m c t.val t.isLt).1 = block (iblk m c 0 t) (iblk m c 1 t) (iblk m c 2 t) (iblk m c 3 t) (iblk m c 4 t) (iblk m c 5 t)
      (k0_pay15 (k0_pay11 (iblk m c 0 ⟨t.val - 1, Nat.lt_of_le_of_lt (Nat.sub_le _ _) t.isLt⟩) k0_pay2)) k0_pay2 k0_pay3 k0_pay5 (k0_pay7 k0_pay6) := by
  have h0 : ¬t.val % 16 = 0 := by omega
  rw [outsAt0_B m c t h0 h1]
  dsimp only
  rw [out_B, tables m c, carry_even m c ⟨t.val - 1, Nat.lt_of_le_of_lt (Nat.sub_le _ _) t.isLt⟩ (by dsimp only; omega)]

end Cert.KernelIdeal.Final
-- ==== Proof.KInputs.lean ====
module

public import proofs.«01_k».proof.Proof.Gen.KernelIdeal.Frame
public import Idealize.ShloMosaic.Lib.Pointwise
public import Idealize.ShloMosaic.Lib.StableHlo.Run
public import Idealize.ShloMosaic.Lib.Tactic

@[expose] public section

/-! The blocks a grid point loads, read off the kernel's arguments. Point `t` takes batch `t / 2`, and of its
    positions the upper half when `t` is even, the lower half when `t` is odd. -/

set_option maxRecDepth 16384

noncomputable section

namespace Cert.KernelIdeal.Final

open Idealize.ShloMosaic Idealize.ShloMosaic.TcCoe Idealize.SL.Sem Cert.KernelIdeal Cert.KernelIdeal.Gen

variable (m : (ℓ : Loc nD τ sig) → Buf (Elt Ideal) ℓ)

/-- The adjacency as the kernel finds it: the argument with time moved last. -/
theorem V_main_v0 (c : Dev nD) :
    V m c main_v0 = transpose S8x64x64x512 [0, 2, 3, 1] (m ((c : Thread nD τ).loc main_arg0)) transposes_S8x512x64x64_S8x64x64x512_0_2_3_1 := by
  show StableHlo.after hostOps0 _ (Proc.devRef .tc main_v0) = _
  after_results

theorem V_main_v1 (c : Dev nD) :
    V m c main_v1 = shapeCast S1x64 (m ((c : Thread nD τ).loc main_arg3)) shapeCasts_S64_S1x64 := by
  show StableHlo.after hostOps0 _ (Proc.devRef .tc main_v1) = _
  after_results
  rfl

theorem V_main_v2 (c : Dev nD) :
    V m c main_v2 = shapeCast S1x64 (m ((c : Thread nD τ).loc main_arg5)) shapeCasts_S64_S1x64 := by
  show StableHlo.after hostOps0 _ (Proc.devRef .tc main_v2) = _
  after_results
  rfl

/-- The batch of point `t`. -/
def batch (t : Fin cfg0.N) : Fin 8 := ⟨t.val / 2, by have := lt_of_lt_of_eq t.isLt (show cfg0.N = 16 from N_0); omega⟩
/-- Position `x` of point `t`'s block, in the sequence. -/
def place (t : Fin cfg0.N) (x : Fin 256) : Fin 512 := ⟨(1 - t.val % 2) * 256 + x.val, by omega⟩

/-- Where point `t`'s block of the adjacency lies, counted in blocks. -/
theorem index0 (t : Fin cfg0.N) : win0_0.index t 0 = t.val / 2 ∧ win0_0.index t 1 = 0 ∧ win0_0.index t 2 = 0 ∧ win0_0.index t 3 = 1 - t.val % 2 :=
  (by decide +kernel : ∀ t : Fin grid0.N, win0_0.index t 0 = t.val / 2 ∧ win0_0.index t 1 = 0 ∧ win0_0.index t 2 = 0 ∧ win0_0.index t 3 = 1 - t.val % 2) t

theorem block0 (c : Dev nD) (t : Fin cfg0.N) (i l : Fin 64) (x : Fin 256) :
    (iblk m c 0 t : Vec Ideal S1x64x64x256 .f32) (ix4 0 i l x) = m ((c : Thread nD τ).loc main_arg0) (ix4 (batch t) (place t x) i l) := by
  obtain ⟨h0, h1, h2, h3⟩ := index0 t
  have e : (iblk m c 0 t : Vec Ideal S1x64x64x256 .f32) (ix4 0 i l x) = V m c main_v0 (ix4 (batch t) i l (place t x)) := by
    unfold iblk
    rw [View.read_apply]
    show V m c main_v0 _ = V m c main_v0 _
    congr 1
    funext a
    apply Fin.ext
    match a with
    | ⟨0, _⟩ => show win0_0.index t 0 * 1 + 1 * 0 = t.val / 2; rw [h0]; omega
    | ⟨1, _⟩ => show win0_0.index t 1 * 64 + 1 * i.val = i.val; rw [h1]; omega
    | ⟨2, _⟩ => show win0_0.index t 2 * 64 + 1 * l.val = l.val; rw [h2]; omega
    | ⟨3, _⟩ => show win0_0.index t 3 * 256 + 1 * x.val = (1 - t.val % 2) * 256 + x.val; rw [h3]; omega
  rw [e, V_main_v0]
  pointwise

theorem index1 (t : Fin cfg0.N) : win0_1.index t 0 = 0 ∧ win0_1.index t 1 = 0 ∧ win0_2.index t 0 = 0 ∧ win0_2.index t 1 = 0
    ∧ win0_3.index t 0 = 0 ∧ win0_3.index t 1 = 0 ∧ win0_4.index t 0 = 0 ∧ win0_4.index t 1 = 0 ∧ win0_5.index t 0 = 0 ∧ win0_5.index t 1 = 0 :=
  (by decide +kernel : ∀ t : Fin grid0.N, win0_1.index t 0 = 0 ∧ win0_1.index t 1 = 0 ∧ win0_2.index t 0 = 0 ∧ win0_2.index t 1 = 0
    ∧ win0_3.index t 0 = 0 ∧ win0_3.index t 1 = 0 ∧ win0_4.index t 0 = 0 ∧ win0_4.index t 1 = 0 ∧ win0_5.index t 0 = 0 ∧ win0_5.index t 1 = 0) t

theorem block1 (c : Dev nD) (t : Fin cfg0.N) (i d : Fin 64) :
    (iblk m c 1 t : Vec Ideal S64x64 .f32) (ix2 i d) = m ((c : Thread nD τ).loc main_arg1) (ix2 i d) := by
  obtain ⟨h0, h1, -⟩ := index1 t
  unfold iblk
  rw [View.read_apply]
  refine Eq.trans (show V m c main_arg1 _ = V m c main_arg1 (ix2 i d) from ?_) (congrFun (V_main_arg1 m c) _)
  congr 1
  funext a
  apply Fin.ext
  match a with
  | ⟨0, _⟩ => show win0_1.index t 0 * 64 + 1 * i.val = i.val; rw [h0]; omega
  | ⟨1, _⟩ => show win0_1.index t 1 * 64 + 1 * d.val = d.val; rw [h1]; omega

theorem block2 (c : Dev nD) (t : Fin cfg0.N) (i d : Fin 64) :
    (iblk m c 2 t : Vec Ideal S64x64 .f32) (ix2 i d) = m ((c : Thread nD τ).loc main_arg2) (ix2 i d) := by
  obtain ⟨-, -, h0, h1, -⟩ := index1 t
  unfold iblk
  rw [View.read_apply]
  refine Eq.trans (show V m c main_arg2 _ = V m c main_arg2 (ix2 i d) from ?_) (congrFun (V_main_arg2 m c) _)
  congr 1
  funext a
  apply Fin.ext
  match a with
  | ⟨0, _⟩ => show win0_2.index t 0 * 64 + 1 * i.val = i.val; rw [h0]; omega
  | ⟨1, _⟩ => show win0_2.index t 1 * 64 + 1 * d.val = d.val; rw [h1]; omega

theorem block4 (c : Dev nD) (t : Fin cfg0.N) (i d : Fin 64) :
    (iblk m c 4 t : Vec Ideal S64x64 .f32) (ix2 i d) = m ((c : Thread nD τ).loc main_arg4) (ix2 i d) := by
  obtain ⟨-, -, -, -, -, -, h0, h1, -⟩ := index1 t
  unfold iblk
  rw [View.read_apply]
  refine Eq.trans (show V m c main_arg4 _ = V m c main_arg4 (ix2 i d) from ?_) (congrFun (V_main_arg4 m c) _)
  congr 1
  funext a
  apply Fin.ext
  match a with
  | ⟨0, _⟩ => show win0_4.index t 0 * 64 + 1 * i.val = i.val; rw [h0]; omega
  | ⟨1, _⟩ => show win0_4.index t 1 * 64 + 1 * d.val = d.val; rw [h1]; omega

theorem block3 (c : Dev nD) (t : Fin cfg0.N) (d : Fin 64) :
    (iblk m c 3 t : Vec Ideal S1x64 .f32) (ix2 0 d) = m ((c : Thread nD τ).loc main_arg3) (ix1 d) := by
  obtain ⟨-, -, -, -, h0, h1, -⟩ := index1 t
  have e : (iblk m c 3 t : Vec Ideal S1x64 .f32) (ix2 0 d) = V m c main_v1 (ix2 0 d) := by
    unfold iblk
    rw [View.read_apply]
    show V m c main_v1 _ = V m c main_v1 _
    congr 1
    funext a
    apply Fin.ext
    match a with
    | ⟨0, _⟩ => show win0_3.index t 0 * 1 + 1 * 0 = 0; rw [h0]
    | ⟨1, _⟩ => show win0_3.index t 1 * 64 + 1 * d.val = d.val; rw [h1]; omega
  rw [e, V_main_v1]
  pointwise

theorem block5 (c : Dev nD) (t : Fin cfg0.N) (d : Fin 64) :
    (iblk m c 5 t : Vec Ideal S1x64 .f32) (ix2 0 d) = m ((c : Thread nD τ).loc main_arg5) (ix1 d) := by
  obtain ⟨-, -, -, -, -, -, -, -, h0, h1⟩ := index1 t
  have e : (iblk m c 5 t : Vec Ideal S1x64 .f32) (ix2 0 d) = V m c main_v2 (ix2 0 d) := by
    unfold iblk
    rw [View.read_apply]
    show V m c main_v2 _ = V m c main_v2 _
    congr 1
    funext a
    apply Fin.ext
    match a with
    | ⟨0, _⟩ => show win0_5.index t 0 * 1 + 1 * 0 = 0; rw [h0]
    | ⟨1, _⟩ => show win0_5.index t 1 * 64 + 1 * d.val = d.val; rw [h1]; omega
  rw [e, V_main_v2]
  pointwise

end Cert.KernelIdeal.Final
-- ==== Proof.Spec.lean ====
module

public import Idealize.ShloMosaic.Lib.Pointwise

@[expose] public section

/-! The functions both programs are compared through, over the extended reals. -/

noncomputable section

namespace Cert.LookAhead

open Idealize.ShloMosaic

/-- One half, as an extended real. -/
def half : EReal := ((1 / 2 : ℝ) : EReal)

/-- The weight after `n` backward steps over the sequence `x`: it starts at 0, and each step takes the
    half of the weight so far plus the next entry from the end. -/
def wt (x : Fin 512 → EReal) : ℕ → EReal
  | 0 => 0
  | n + 1 => half * (wt x n + x ⟨511 - n, by omega⟩)

/-- Entry `(k, s)` of the decay table: `2^-(k-s+1)` on and below the diagonal, 0 above it. -/
def decay (k s : ℕ) : EReal := if s ≤ k then (((1 / 2 : ℝ) ^ (k - s + 1) : ℝ) : EReal) else 0

/-- The factor with which a chunk's end reaches its position `s`: `2^(s-256)`. -/
def fade (s : ℕ) : EReal := (((1 / 2 : ℝ) ^ (256 - s) : ℝ) : EReal)

/-- The column of the decay table that position `s` reads: columns from 256 on all repeat column 0. -/
def col (s : ℕ) : ℕ := if s < 256 then s else 0

/-- The kernel's degree of node `i`: the weights `w` off the diagonal (`ne` masks it out), plus 1. -/
def kdeg (w ne : Fin 64 → Fin 64 → EReal) (i : Fin 64) : EReal := (∑ x, w i x * ne i x) + 1

/-- The kernel's normalised adjacency: `e` puts 1 on the diagonal. -/
def kadj (w ne e : Fin 64 → Fin 64 → EReal) (i l : Fin 64) : EReal :=
  (w i l * ne i l + e i l) * Ideal.rsqrt (kdeg w ne i) * Ideal.rsqrt (kdeg w ne l)

/-- The kernel's two layers, in its order: the features are combined once, then spread twice. -/
def kout (w ne e : Fin 64 → Fin 64 → EReal) (g : Fin 64 → Fin 64 → EReal) (b1 b2 : Fin 64 → EReal) (i d : Fin 64) : EReal :=
  (∑ x, kadj w ne e i x * ((∑ y, kadj w ne e x y * g y d) + b1 d)) + b2 d

/-- Row `i * 64 + l` of a table with one row per node pair. -/
def pair (i l : Fin 64) : Fin 4096 := ⟨i.val * 64 + l.val, by omega⟩

end Cert.LookAhead
-- ==== Proof.KPay.lean ====
module

public import proofs.«01_k».proof.Proof.Gen.KernelIdeal.Skeleton
public import proofs.«01_k».proof.Proof.Spec
public import Idealize.ShloMosaic.Lib.Pointwise
public import Idealize.ShloMosaic.Lib.WordCmp

@[expose] public section

/-! What the kernel's stored and named values are at an index, over the extended reals. -/

set_option maxRecDepth 16384

noncomputable section

namespace Cert.KernelIdeal.Pay

open Idealize.ShloMosaic Idealize.ShloMosaic.WordCmp Cert.KernelIdeal Cert.KernelIdeal.Gen Cert.LookAhead

/-- The product of the adjacency block, flattened to one row per node pair, with the decay table. -/
theorem pay11_apply (v18 : Vec Ideal S1x64x64x256 .f32) (v21 : Vec Ideal S256x512 .f32) (i l : Fin 64) (s : Fin 512) :
    k0_pay11 v18 v21 (ix2 (pair i l) s) = ∑ x, v18 (ix4 0 i l x) * v21 (ix2 x s) := by
  have e1 : ∀ h, (⟨(pair i l).val / 64, h⟩ : Fin 64) = i := fun h => Fin.ext (by show (i.val * 64 + l.val) / 64 = i.val; omega)
  have e2 : ∀ h, (⟨(pair i l).val % 64, h⟩ : Fin 64) = l := fun h => Fin.ext (by show (i.val * 64 + l.val) % 64 = l.val; omega)
  pointwise [k0_pay11]
  simp only [e1, e2]

theorem pay12_apply (v18 : Vec Ideal S1x64x64x256 .f32) (v21 : Vec Ideal S256x512 .f32) (r : Fin 4096) (s : Fin 256) :
    k0_pay12 v18 v21 (ix2 r s) = k0_pay11 v18 v21 (ix2 r ⟨s.val, by omega⟩) := by
  pointwise [k0_pay12]

theorem pay15_apply (v22 : FVec Ideal S4096x512 .f32) (r : Fin 4096) (s : Fin 256) :
    k0_pay15 v22 (ix2 r s) = v22 (ix2 r ⟨256 + s.val, by omega⟩) := by
  pointwise [k0_pay15]

theorem pay9_apply (a b c : Vec Ideal S64x64 .f32) (i d : Fin 64) :
    k0_pay9 a b c (ix2 i d) = ∑ x, (∑ x_1, a (ix2 i x_1) * b (ix2 x_1 x)) * c (ix2 x d) := by
  pointwise [k0_pay9]

theorem pay10_apply (a : Vec Ideal S1x64 .f32) (c : Vec Ideal S64x64 .f32) (d : Fin 64) :
    k0_pay10 a c (ix2 0 d) = ∑ x, a (ix2 0 x) * c (ix2 x d) := by
  pointwise [k0_pay10]

theorem pay14_apply (a b c : FVec Ideal S4096x256 .f32) (r : Fin 4096) (s : Fin 256) :
    k0_pay14 a b c (ix2 r s) = a (ix2 r s) + b (ix2 r s) * c (ix2 r s) := by
  pointwise [k0_pay14]

theorem pay13_apply (a : Vec Ideal S1x256 .f32) (r : Fin 4096) (s : Fin 256) :
    k0_pay13 a (ix2 r s) = a (ix2 0 s) := by
  pointwise [k0_pay13]

theorem pay8_apply (r : Fin 4096) (s : Fin 256) :
    k0_pay8 (F := Ideal) (ix2 r s) = 0 := by
  pointwise [k0_pay8]

/-- A power of two with a negative whole exponent. -/
theorem exp2_neg (n : ℕ) (x : EReal) (h : x = ((-(n : ℝ) : ℝ) : EReal)) : Ideal.exp2 x = (((1 / 2 : ℝ) ^ n : ℝ) : EReal) := by
  rw [h, Ideal.exp2_coe]
  congr 1
  show (2 : ℝ) ^ (-(n : ℝ)) = _
  rw [Real.rpow_neg (by norm_num), Real.rpow_natCast, one_div, inv_pow]

/-- The word arithmetic of the decay table's exponent. -/
theorem word_exp (k j : ℕ) (hk : k < 256) (hj : j ≤ k) :
    (IntOp.addi (IntOp.subi (BitVec.ofNat 32 k) (BitVec.ofNat 32 j)) 1#32).toInt = ((k - j + 1 : ℕ) : Int) := by
  have e : IntOp.addi (IntOp.subi (BitVec.ofNat 32 k) (BitVec.ofNat 32 j)) 1#32 = BitVec.ofNat 32 (k - j + 1) := by
    apply BitVec.eq_of_toNat_eq
    unfold IntOp.subi IntOp.addi
    simp only [BitVec.toNat_sub, BitVec.toNat_add, BitVec.toNat_ofNat]
    omega
  rw [e, BitVec.toInt_eq_toNat_of_lt (by rw [BitVec.toNat_ofNat]; omega), BitVec.toNat_ofNat]
  omega

/-- The word arithmetic of the fading factor's exponent. -/
theorem word_fade (s : ℕ) (hs : s < 256) :
    (IntOp.subi (BitVec.ofNat 32 s) 256#32).toInt = (s : Int) - 256 := by
  have e : (IntOp.subi (BitVec.ofNat 32 s) 256#32).toNat = 4294967296 + s - 256 := by
    unfold IntOp.subi
    simp only [BitVec.toNat_sub, BitVec.toNat_ofNat]
    omega
  rw [BitVec.toInt_eq_toNat_cond, e]
  norm_num
  split_ifs <;> omega

/-- The column index as a word. -/
theorem word_col (s : ℕ) (hs : s < 512) :
    Scalar.select (IntOp.cmpi .slt (BitVec.ofNat 32 s) 256#32) (BitVec.ofNat 32 s) 0#32 = BitVec.ofNat 32 (col s) := by
  rw [cmpi_slt_ofNat (by omega) (by omega), select_decide]
  unfold col
  split_ifs <;> rfl

/-- The decay table. -/
theorem pay2_apply (r : Fin 256) (s : Fin 512) :
    k0_pay2 (F := Ideal) (ix2 r s) = decay r.val (col s.val) := by
  have hc : col s.val < 256 := by unfold col; split_ifs <;> omega
  pointwise [k0_pay2]
  rw [word_col s.val s.isLt, cmpi_sge_ofNat (by omega) (by omega), select_decide]
  unfold decay
  split_ifs with h
  · refine exp2_neg _ _ ?_
    show (0 : EReal) - ((((IntOp.addi (IntOp.subi (BitVec.ofNat 32 r.val) (BitVec.ofNat 32 (col s.val))) 1#32).toInt : ℝ)) : EReal) = _
    rw [word_exp r.val (col s.val) r.isLt h, zero_sub, ← EReal.coe_neg]
    norm_cast
  · rfl

/-- The fading factors, the same in all eight rows. -/
theorem pay3_apply (r : Fin 8) (s : Fin 256) :
    k0_pay3 (F := Ideal) (ix2 r s) = fade s.val := by
  pointwise [k0_pay3]
  unfold fade
  refine exp2_neg _ _ ?_
  show ((((IntOp.subi (BitVec.ofNat 32 s.val) 256#32).toInt : ℝ)) : EReal) = _
  rw [word_fade s.val s.isLt]
  congr 1
  have := s.isLt
  rw [Nat.cast_sub (by omega)]
  push_cast
  ring

/-- The mask off the diagonal. -/
theorem pay5_apply (i l : Fin 64) (s : Fin 128) :
    k0_pay5 (F := Ideal) (ix2 (pair i l) s) = if i = l then 0 else 1 := by
  have e1 : (pair i l).val / 64 = i.val := by show (i.val * 64 + l.val) / 64 = i.val; omega
  have e2 : (pair i l).val % 64 = l.val := by show (i.val * 64 + l.val) % 64 = l.val; omega
  pointwise [k0_pay5, k0_pay4]
  rw [e1, e2, cmpi_eq_ofNat (by omega) (by omega), select_decide]
  simp only [Fin.ext_iff]

/-- The ones on the diagonal. -/
theorem pay7_apply (i l : Fin 64) (s : Fin 128) :
    k0_pay7 (k0_pay6 (F := Ideal)) (ix2 (pair i l) s) = if i = l then 1 else 0 := by
  have e1 : (pair i l).val / 64 = i.val := by show (i.val * 64 + l.val) / 64 = i.val; omega
  have e2 : (pair i l).val % 64 = l.val := by show (i.val * 64 + l.val) % 64 = l.val; omega
  pointwise [k0_pay7, k0_pay6, k0_pay4]
  rw [e1, e2, cmpi_eq_ofNat (by omega) (by omega), select_decide]
  simp only [Fin.ext_iff]

/-- The first half of the block's positions. -/
theorem pay16_apply (v13 : FVec Ideal S64x64 .bf16) (v17 : FVec Ideal S1x64 .f32) (v23 : FVec Ideal S4096x256 .f32) (v24 : Vec Ideal S4096x256 .f32) (v26 : FVec Ideal S4096x256 .f32) (v33 : Vec Ideal S4096x128 .f32) (v34 : Vec Ideal S4096x128 .f32) (v59 : Vec Ideal S1x64 .f32) (i d : Fin 64) (s : Fin 128) :
    k0_pay16 v13 v17 v23 v24 v26 v33 v34 v59 (ix4 0 i d s)
      = kout (fun i l => k0_pay14 v23 v24 v26 (ix2 (pair i l) ⟨s.val, by omega⟩)) (fun i l => v33 (ix2 (pair i l) s))
          (fun i l => v34 (ix2 (pair i l) s)) (fun y d => v13 (ix2 y d)) (fun d => v17 (ix2 0 d)) (fun d => v59 (ix2 0 d)) i d := by
  pointwise [k0_pay16]
  rfl

/-- The second half of the block's positions. -/
theorem pay1_apply (v13 : FVec Ideal S64x64 .bf16) (v17 : FVec Ideal S1x64 .f32) (v28 : FVec Ideal S4096x256 .f32) (v33 : Vec Ideal S4096x128 .f32) (v34 : Vec Ideal S4096x128 .f32) (v59 : Vec Ideal S1x64 .f32) (i d : Fin 64) (s : Fin 128) :
    k0_pay1 v13 v17 v28 v33 v34 v59 (ix4 0 i d s)
      = kout (fun i l => v28 (ix2 (pair i l) ⟨128 + s.val, by omega⟩)) (fun i l => v33 (ix2 (pair i l) s))
          (fun i l => v34 (ix2 (pair i l) s)) (fun y d => v13 (ix2 y d)) (fun d => v17 (ix2 0 d)) (fun d => v59 (ix2 0 d)) i d := by
  pointwise [k0_pay1]
  rfl

end Cert.KernelIdeal.Pay
-- ==== Proof.KBlock.lean ====
module

public import proofs.«01_k».proof.Proof.KPay
public import proofs.«01_k».proof.Proof.KPoint

@[expose] public section

/-! The output block of a point at an index, over the extended reals. -/

set_option maxRecDepth 16384

noncomputable section

namespace Cert.KernelIdeal.Point

open Idealize.ShloMosaic Cert.KernelIdeal Cert.KernelIdeal.Gen Cert.KernelIdeal.Pay Cert.LookAhead

/-- 0 on the diagonal, 1 off it. -/
def offDiag (i l : Fin 64) : EReal := if i = l then 0 else 1
/-- 1 on the diagonal, 0 off it. -/
def onDiag (i l : Fin 64) : EReal := if i = l then 1 else 0

theorem fadeRow_apply (d : Vec Ideal S8x256 .f32) (s : Fin 256) : fadeRow d (ix2 0 s) = d (ix2 0 s) := by
  unfold fadeRow
  show d _ = d _
  congr 1
  funext a
  apply Fin.ext
  match a with
  | ⟨0, _⟩ => rfl
  | ⟨1, _⟩ => show 0 + 1 * s.val = s.val; omega

variable (x0 : Vec Ideal S1x64x64x256 .f32) (x1 x2 : Vec Ideal S64x64 .f32) (x3 : Vec Ideal S1x64 .f32) (x4 : Vec Ideal S64x64 .f32) (x5 : Vec Ideal S1x64 .f32)
  (carry : Vec Ideal S4096x256 .f32)

/-- The weight of a node pair at position `s` of a chunk: the chunk's own entries, and the carry faded. -/
def weight (i l : Fin 64) (s : Fin 256) : EReal :=
  (∑ x : Fin 256, x0 (ix4 0 i l x) * decay x.val s.val) + carry (ix2 (pair i l) s) * fade s.val

/-- The features, combined by both weight matrices. -/
def feat (y d : Fin 64) : EReal := ∑ x, (∑ x_1, x1 (ix2 y x_1) * x2 (ix2 x_1 x)) * x4 (ix2 x d)

theorem weight_eq (i l : Fin 64) (s : Fin 256) :
    k0_pay14 (k0_pay12 x0 (k0_pay2 (F := Ideal))) carry (k0_pay13 (fadeRow (k0_pay3 (F := Ideal)))) (ix2 (pair i l) s) = weight x0 carry i l s := by
  rw [pay14_apply, pay12_apply, pay11_apply, pay13_apply, fadeRow_apply, pay3_apply]
  unfold weight
  congr 1
  refine Finset.sum_congr rfl fun x _ => ?_
  rw [pay2_apply]
  have e : col s.val = s.val := if_pos s.isLt
  show _ * decay x.val (col s.val) = _
  rw [e]

/-- The block: the two layers on the weights of each position. -/
theorem block_apply (i d : Fin 64) (s : Fin 256) :
    block x0 x1 x2 x3 x4 x5 carry (k0_pay2 (F := Ideal)) (k0_pay3 (F := Ideal)) (k0_pay5 (F := Ideal)) (k0_pay7 (k0_pay6 (F := Ideal))) (ix4 0 i d s)
      = kout (fun i l => weight x0 carry i l s) offDiag onDiag (feat x1 x2 x4)
          (fun d => ∑ x, x3 (ix2 0 x) * x4 (ix2 x d)) (fun d => x5 (ix2 0 d)) i d := by
  unfold block
  by_cases h : s.val < 128
  · rw [View.canon_cons_of_not_mem]
    · have e : (ix4 0 i d s : S1x64x64x256.Idx) = (Rect.unit (s := S1x64x64x256) ![0, 0, 0, 0] S1x64x64x128.size inb_S1x64x64x256_S1x64x64x128_0_0_0_0).emb
          (ix4 0 i d ⟨s.val, h⟩ : S1x64x64x128.Idx) := by
        funext a
        apply Fin.ext
        match a with
        | ⟨0, _⟩ => rfl
        | ⟨1, _⟩ => show i.val = 0 + 1 * i.val; omega
        | ⟨2, _⟩ => show d.val = 0 + 1 * d.val; omega
        | ⟨3, _⟩ => show s.val = 0 + 1 * s.val; omega
      rw [e, View.canon_cons_emb]
      refine (pay16_apply _ _ _ _ _ _ _ _ i d ⟨s.val, h⟩).trans ?_
      simp only [weight_eq, pay5_apply, pay7_apply, pay9_apply, pay10_apply]
      rfl
    · intro hm
      have h3 := (Rect.mem_set_unit (inb := inb_S1x64x64x256_S1x64x64x128_0_0_0_128)).mp hm (3 : Fin 4)
      have h4 : 128 ≤ s.val := h3.1
      omega
  · have hs : s.val - 128 < 128 := by omega
    have e : (ix4 0 i d s : S1x64x64x256.Idx) = (Rect.unit (s := S1x64x64x256) ![0, 0, 0, 128] S1x64x64x128.size inb_S1x64x64x256_S1x64x64x128_0_0_0_128).emb
        (ix4 0 i d ⟨s.val - 128, hs⟩ : S1x64x64x128.Idx) := by
      funext a
      apply Fin.ext
      match a with
      | ⟨0, _⟩ => rfl
      | ⟨1, _⟩ => show i.val = 0 + 1 * i.val; omega
      | ⟨2, _⟩ => show d.val = 0 + 1 * d.val; omega
      | ⟨3, _⟩ => show s.val = 128 + 1 * (s.val - 128); omega
    rw [e, View.canon_cons_emb]
    refine (pay1_apply _ _ _ _ _ _ i d ⟨s.val - 128, hs⟩).trans ?_
    have es : (⟨128 + (s.val - 128), by omega⟩ : Fin 256) = s := Fin.ext (by show 128 + (s.val - 128) = s.val; omega)
    simp only [es, weight_eq, pay5_apply, pay7_apply, pay9_apply, pay10_apply]
    rfl

/-- The carry a chunk leaves, the same at every position: the chunk's column 0. -/
theorem carry_apply (i l : Fin 64) (s : Fin 256) :
    k0_pay15 (k0_pay11 x0 (k0_pay2 (F := Ideal))) (ix2 (pair i l) s) = ∑ x : Fin 256, x0 (ix4 0 i l x) * decay x.val 0 := by
  rw [pay15_apply, pay11_apply]
  refine Finset.sum_congr rfl fun x _ => ?_
  rw [pay2_apply]
  have e : col (256 + s.val) = 0 := if_neg (by omega)
  show _ * decay x.val (col (256 + s.val)) = _
  rw [e]

end Cert.KernelIdeal.Point
-- ==== Proof.Scan.lean ====
module

public import proofs.«01_k».proof.Proof.Spec

@[expose] public section

/-! The recurrence of the weights, solved over half the sequence at once: the decay table's row sums plus the faded carry. -/

noncomputable section

namespace Cert.LookAhead

open Idealize.ShloMosaic

/-- What the kernel computes at position `s` of a chunk `y` of 256 entries that ends with weight `c`. -/
def chunk (y : Fin 256 → EReal) (c : EReal) (s : ℕ) : EReal := (∑ x, y x * decay x.val s) + c * fade s

theorem half_nonneg : 0 ≤ half := by
  unfold half
  exact EReal.coe_nonneg.mpr (by norm_num)

theorem half_mul_add (a b : EReal) : half * (a + b) = half * a + half * b :=
  EReal.left_distrib_of_nonneg_of_ne_top half_nonneg (EReal.coe_ne_top _) a b

theorem half_mul_sum {n : ℕ} (f : Fin n → EReal) : half * ∑ x, f x = ∑ x, half * f x := by
  induction n with
  | zero => simp
  | succ n ih => rw [Fin.sum_univ_succ, Fin.sum_univ_succ, half_mul_add, ih]

/-- One step up the decay table: the next row's entry halved, and a half on the diagonal. -/
theorem decay_step (k s : ℕ) : decay k s = half * (decay k (s + 1) + if k = s then 1 else 0) := by
  unfold decay half
  rcases lt_trichotomy k s with h | h | h
  · rw [if_neg (by omega), if_neg (by omega), if_neg (by omega)]; simp
  · subst h
    rw [if_pos le_rfl, if_neg (by omega), if_pos rfl]; simp
  · rw [if_pos h.le, if_pos (by omega), if_neg (by omega), add_zero, ← EReal.coe_mul]
    congr 1
    rw [show k - s + 1 = (k - (s + 1) + 1) + 1 by omega, pow_succ' _ (k - (s + 1) + 1)]

theorem fade_step (s : ℕ) (h : s < 256) : fade s = half * fade (s + 1) := by
  unfold fade half
  rw [← EReal.coe_mul]
  congr 1
  rw [show 256 - s = (256 - (s + 1)) + 1 by omega, pow_succ']

theorem mul_decay_step (a : EReal) (k s : ℕ) : a * decay k s = half * (a * decay k (s + 1) + if k = s then a else 0) := by
  rw [decay_step]
  split_ifs with h
  · have : decay k (s + 1) = 0 := by unfold decay; rw [if_neg (by omega)]
    rw [this]; simp [mul_comm]
  · rw [add_zero, add_zero, mul_left_comm]

/-- The chunk's values follow the recurrence backwards. -/
theorem chunk_step (y : Fin 256 → EReal) (c : EReal) (s : ℕ) (h : s < 256) : chunk y c s = half * (chunk y c (s + 1) + y ⟨s, h⟩) := by
  unfold chunk
  rw [fade_step s h, mul_left_comm, Finset.sum_congr rfl fun x _ => mul_decay_step (y x) x.val s, ← half_mul_sum, ← half_mul_add, Finset.sum_add_distrib,
    add_right_comm]
  congr 2
  rw [Finset.sum_eq_single ⟨s, h⟩]
  · rw [if_pos rfl]
  · intro x _ hx
    rw [if_neg fun e => hx (Fin.ext e)]
  · simp

theorem chunk_end (y : Fin 256 → EReal) (c : EReal) : chunk y c 256 = c := by
  unfold chunk fade
  rw [Finset.sum_eq_zero]
  · simp
  · intro x _
    unfold decay
    rw [if_neg (by omega), mul_zero]

/-- So a sequence that starts at the chunk's end value and takes the same steps has the chunk's values. -/
theorem chunk_eq (y : Fin 256 → EReal) (c : EReal) (f : ℕ → EReal) (h0 : f 0 = c)
    (hs : ∀ n (h : n < 256), f (n + 1) = half * (f n + y ⟨255 - n, by omega⟩)) : ∀ n ≤ 256, f n = chunk y c (256 - n)
  | 0, _ => by rw [h0, Nat.sub_zero, chunk_end]
  | n + 1, h => by
    rw [hs n (by omega), chunk_eq y c f h0 hs n (by omega), chunk_step y c (256 - (n + 1)) (by omega),
      show 256 - (n + 1) + 1 = 256 - n by omega]
    congr 3
    apply Fin.ext
    dsimp only
    omega

/-- The upper half of the sequence starts from 0. -/
theorem wt_upper (X : Fin 512 → EReal) (s : ℕ) (h : s ≤ 256) : chunk (fun x => X ⟨256 + x.val, by omega⟩) 0 s = wt X (256 - s) := by
  have := chunk_eq (fun x : Fin 256 => X ⟨256 + x.val, by omega⟩) 0 (wt X) rfl (fun n hn => ?_) (256 - s) (by omega)
  · rw [show 256 - (256 - s) = s by omega] at this
    exact this.symm
  show half * (wt X n + X ⟨511 - n, _⟩) = _
  congr 3
  apply Fin.ext
  dsimp only
  omega

/-- The lower half starts from what the upper half leaves. -/
theorem wt_lower (X : Fin 512 → EReal) (s : ℕ) (h : s ≤ 256) : chunk (fun x => X ⟨x.val, by omega⟩) (wt X 256) s = wt X (512 - s) := by
  have := chunk_eq (fun x : Fin 256 => X ⟨x.val, by omega⟩) (wt X 256) (fun n => wt X (256 + n)) rfl (fun n hn => ?_) (256 - s) (by omega)
  · rw [show 256 - (256 - s) = s by omega] at this
    rw [← this, show 256 + (256 - s) = 512 - s by omega]
  show half * (wt X (256 + n) + X ⟨511 - (256 + n), _⟩) = _
  congr 3
  apply Fin.ext
  dsimp only
  omega

end Cert.LookAhead
-- ==== Proof.KFinal.lean ====
module

public import proofs.«01_k».proof.Proof.KState
public import proofs.«01_k».proof.Proof.KInputs
public import proofs.«01_k».proof.Proof.KBlock
public import proofs.«01_k».proof.Proof.Scan
public import Idealize.ShloMosaic.Lib.Pipeline.Value

@[expose] public section

/-! The kernel's run: its result, index by index, as a function of the arguments. -/

set_option maxRecDepth 16384

noncomputable section

namespace Cert.KernelIdeal.Final

open Idealize.ShloMosaic Idealize.ShloMosaic.TcCoe Idealize.SL.Sem Cert.KernelIdeal Cert.KernelIdeal.Gen Cert.KernelIdeal.Point Cert.LookAhead

/-- The kernel's result at batch `b`, position `s`, node `i`, feature `d`. -/
def value (a : Vec Ideal S8x512x64x64 .f32) (x1 x2 : Vec Ideal S64x64 .f32) (x3 : Vec Ideal S64 .f32) (x4 : Vec Ideal S64x64 .f32) (x5 : Vec Ideal S64 .f32)
    (b : Fin 8) (s : Fin 512) (i d : Fin 64) : EReal :=
  kout (fun i l => wt (fun t => a (ix4 b t i l)) (512 - s.val)) offDiag onDiag (feat x1 x2 x4)
    (fun d => ∑ x, x3 (ix1 x) * x4 (ix2 x d)) (fun d => x5 (ix1 d)) i d

variable (m : (ℓ : Loc nD τ sig) → Buf (Elt Ideal) ℓ)

/-- `value` at the arguments in memory `m` of device `c`. -/
def valueAt (c : Dev nD) : Fin 8 → Fin 512 → Fin 64 → Fin 64 → EReal :=
  value (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem valueAt_congr (c : Dev nD) {b b' : Fin 8} {s s' : Fin 512} {i i' d d' : Fin 64} (hb : b = b') (hs : s = s') (hi : i = i') (hd : d = d') :
    valueAt m c b s i d = valueAt m c b' s' i' d' := by
  rw [hb, hs, hi, hd]

/-- The weights a point computes, given the carry it reads, are a chunk's values. -/
theorem weight_chunk (c : Dev nD) (t : Fin cfg0.N) (carry : Vec Ideal S4096x256 .f32) (i l : Fin 64) (s : Fin 256) :
    weight (iblk m c 0 t) carry i l s
      = chunk (fun x => m ((c : Thread nD τ).loc main_arg0) (ix4 (batch t) (place t x) i l)) (carry (ix2 (pair i l) s)) s.val := by
  have h := block0 m c t
  generalize (iblk m c 0 t : Vec Ideal S1x64x64x256 .f32) = x0 at h ⊢
  unfold weight chunk
  simp only [h]

/-- The block of a point whose carry continues the weights is `value` at the block's positions. -/
theorem block_value (c : Dev nD) (t : Fin cfg0.N) (carry : Vec Ideal S4096x256 .f32) (i d : Fin 64) (s : Fin 256)
    (hw : ∀ i l, weight (iblk m c 0 t) carry i l s = wt (fun x => m ((c : Thread nD τ).loc main_arg0) (ix4 (batch t) x i l)) (512 - (place t s).val)) :
    block (iblk m c 0 t) (iblk m c 1 t) (iblk m c 2 t) (iblk m c 3 t) (iblk m c 4 t) (iblk m c 5 t) carry
      (k0_pay2 (F := Ideal)) (k0_pay3 (F := Ideal)) (k0_pay5 (F := Ideal)) (k0_pay7 (k0_pay6 (F := Ideal))) (ix4 0 i d s)
      = valueAt m c (batch t) (place t s) i d := by
  have h1 := block1 m c t
  have h2 := block2 m c t
  have h3 := block3 m c t
  have h4 := block4 m c t
  have h5 := block5 m c t
  generalize (iblk m c 0 t : Vec Ideal S1x64x64x256 .f32) = x0 at hw ⊢
  generalize (iblk m c 1 t : Vec Ideal S64x64 .f32) = x1 at h1 ⊢
  generalize (iblk m c 2 t : Vec Ideal S64x64 .f32) = x2 at h2 ⊢
  generalize (iblk m c 3 t : Vec Ideal S1x64 .f32) = x3 at h3 ⊢
  generalize (iblk m c 4 t : Vec Ideal S64x64 .f32) = x4 at h4 ⊢
  generalize (iblk m c 5 t : Vec Ideal S1x64 .f32) = x5 at h5 ⊢
  rw [block_apply]
  unfold valueAt value feat
  simp only [hw, h1, h2, h3, h4, h5]

/-- The carry left by a point over the upper half is the weight at the middle of the sequence. -/
theorem carry_wt (X : Fin 512 → EReal) (x0 : Vec Ideal S1x64x64x256 .f32) (i l : Fin 64) (h : ∀ x : Fin 256, x0 (ix4 0 i l x) = X ⟨256 + x.val, by omega⟩) :
    (∑ x : Fin 256, x0 (ix4 0 i l x) * decay x.val 0) = wt X 256 := by
  rw [← wt_upper X 0 (by omega)]
  unfold chunk
  rw [zero_mul, add_zero]
  exact Finset.sum_congr rfl fun x _ => by rw [h]

/-- What point `t` leaves in the output block. -/
theorem out_value (c : Dev nD) (t : Fin cfg0.N) (i d : Fin 64) (s : Fin 256) :
    (outsAt0 m c t.val t.isLt).1 (ix4 0 i d s) = valueAt m c (batch t) (place t s) i d := by
  by_cases h : t.val % 2 = 0
  · rw [out_even m c t h]
    refine block_value m c t _ i d s fun i l => ?_
    rw [weight_chunk, Pay.pay8_apply]
    have e : ∀ x : Fin 256, place t x = ⟨256 + x.val, by omega⟩ := fun x => Fin.ext (by unfold place; dsimp only; omega)
    simp only [e]
    rw [wt_upper (fun x => m ((c : Thread nD τ).loc main_arg0) (ix4 (batch t) x i l)) s.val (by omega)]
    congr 1
    omega
  · rw [out_odd m c t h]
    refine block_value m c t _ i d s fun i l => ?_
    rw [weight_chunk, carry_apply]
    generalize hu : (⟨t.val - 1, Nat.lt_of_le_of_lt (Nat.sub_le _ _) t.isLt⟩ : Fin cfg0.N) = u
    have hv : u.val = t.val - 1 := by rw [← hu]
    have hb : batch u = batch t := Fin.ext (by unfold batch; dsimp only; omega)
    have e : ∀ x : Fin 256, place t x = ⟨x.val, by omega⟩ := fun x => Fin.ext (by unfold place; dsimp only; omega)
    have e' : ∀ x : Fin 256, place u x = ⟨256 + x.val, by omega⟩ := fun x => Fin.ext (by unfold place; dsimp only; omega)
    rw [carry_wt (fun x => m ((c : Thread nD τ).loc main_arg0) (ix4 (batch t) x i l)) _ i l fun x => by rw [block0, hb, e']]
    simp only [e]
    exact wt_lower (fun x => m ((c : Thread nD τ).loc main_arg0) (ix4 (batch t) x i l)) s.val (by omega)

/-- Where point `t` writes its block, counted in blocks. -/
theorem index6 (t : Fin cfg0.N) : win0_6.index t 0 = t.val / 2 ∧ win0_6.index t 1 = 0 ∧ win0_6.index t 2 = 0 ∧ win0_6.index t 3 = 1 - t.val % 2 :=
  (by decide +kernel : ∀ t : Fin grid0.N, win0_6.index t 0 = t.val / 2 ∧ win0_6.index t 1 = 0 ∧ win0_6.index t 2 = 0 ∧ win0_6.index t 3 = 1 - t.val % 2) t

/-- The array the kernel's grid fills. -/
def grid (c : Dev nD) : Vec Ideal S8x64x64x512 .f32 := fun j => valueAt m c (j 0) (j 3) (j 1) (j 2)

/-- Each point writes back its block of `grid`. -/
theorem flushed_eq (c : Dev nD) (t : Fin cfg0.N) : (dats m 0 c).flushed 6 t = (win0_6.blk t).view.read (Elt Ideal) (grid m c) := by
  show (cfg0.win 6).cut (grid0.coords t) ((dats m 0 c).after 6 t) = _
  rw [after0_6]
  obtain ⟨h0, h1, h2, h3⟩ := index6 t
  funext j
  rw [View.read_apply]
  have hj : (outsAt0 m c t.val t.isLt).1 (ix4 0 (j 1) (j 2) (j 3)) = valueAt m c (batch t) (place t (j 3)) (j 1) (j 2) := out_value m c t (j 1) (j 2) (j 3)
  refine Eq.trans (show _ = (outsAt0 m c t.val t.isLt).1 (ix4 0 (j 1) (j 2) (j 3)) from ?_) (hj.trans ?_)
  · refine congrArg (outsAt0 m c t.val t.isLt).1 (funext fun a => Fin.ext ?_)
    match a with
    | ⟨0, _⟩ => have : (j 0).val < 1 := (j 0).isLt; show (j 0).val = 0; omega
    | ⟨1, _⟩ => rfl
    | ⟨2, _⟩ => rfl
    | ⟨3, _⟩ => rfl
  · refine valueAt_congr m c ?_ ?_ ?_ ?_
    · apply Fin.ext
      have : (j 0).val < 1 := (j 0).isLt
      show t.val / 2 = win0_6.index t 0 * 1 + 1 * (j 0).val
      rw [h0]; omega
    · apply Fin.ext
      show (1 - t.val % 2) * 256 + (j 3).val = win0_6.index t 3 * 256 + 1 * (j 3).val
      rw [h3]; omega
    · apply Fin.ext
      show (j 1).val = win0_6.index t 1 * 64 + 1 * (j 1).val
      rw [h1]; omega
    · apply Fin.ext
      show (j 2).val = win0_6.index t 2 * 64 + 1 * (j 2).val
      rw [h2]; omega

/-- The points' blocks cover the array. -/
theorem cover (i : S8x64x64x512.Idx) : ∃ t : Fin cfg0.N, (cfg0.win 6).flush t = true ∧ i ∈ ((cfg0.win 6).blk t).view.set := by
  have b0 : (i 0).val < 8 := (i 0).isLt
  have b1 : (i 1).val < 64 := (i 1).isLt
  have b2 : (i 2).val < 64 := (i 2).isLt
  have b3 : (i 3).val < 512 := (i 3).isLt
  refine ⟨⟨(i 0).val * 2 + (1 - (i 3).val / 256), by rw [show cfg0.N = 16 from N_0]; omega⟩, flush0_6 _, ?_⟩
  generalize ht : (⟨(i 0).val * 2 + (1 - (i 3).val / 256), _⟩ : Fin cfg0.N) = t
  have hv : t.val = (i 0).val * 2 + (1 - (i 3).val / 256) := by rw [← ht]
  obtain ⟨h0, h1, h2, h3⟩ := index6 t
  show i ∈ ((View.whole main_v3).slice (win0_6.rect t)).set
  rw [View.set_slice_whole, Rect.mem_set_unit]
  intro a
  match a with
  | ⟨0, _⟩ => show win0_6.index t 0 * 1 ≤ (i 0).val ∧ (i 0).val < win0_6.index t 0 * 1 + 1; rw [h0]; omega
  | ⟨1, _⟩ => show win0_6.index t 1 * 64 ≤ (i 1).val ∧ (i 1).val < win0_6.index t 1 * 64 + 64; rw [h1]; omega
  | ⟨2, _⟩ => show win0_6.index t 2 * 64 ≤ (i 2).val ∧ (i 2).val < win0_6.index t 2 * 64 + 64; rw [h2]; omega
  | ⟨3, _⟩ => show win0_6.index t 3 * 256 ≤ (i 3).val ∧ (i 3).val < win0_6.index t 3 * 256 + 256; rw [h3]; omega

theorem array_eq (c : Dev nD) : (dats m 0 c).arrAt 6 cfg0.N = grid m c :=
  (dats m 0 c).arrAt_eq_of_cover 6 (grid m c) (fun t _ => flushed_eq m c t) cover

/-- The result: time moved back in front of the nodes. -/
def result (c : Dev nD) : Vec Ideal S8x512x64x64 .f32 := transpose S8x512x64x64 [0, 3, 1, 2] (grid m c) transposes_S8x64x64x512_S8x512x64x64_0_3_1_2

theorem result_apply (c : Dev nD) (b : Fin 8) (s : Fin 512) (i d : Fin 64) : result m c (ix4 b s i d) = valueAt m c b s i d := by
  have e : result m c (ix4 b s i d) = grid m c (ix4 b i d s) := by
    unfold result
    pointwise
  rw [e]
  rfl

theorem tail_eq (c : Dev nD) : Pipeline.afterTail₀ cfgs (dats m) 0 (V0 m) [hostOps1] c main_v4 = result m c := by
  show StableHlo.after hostOps1 _ (Proc.devRef .tc main_v4) = _
  after_results
  unfold result
  rw [← array_eq]
  congr 1
  exact Pipeline.withArrays_arr spec0 launch0.win.arr_inj c (V0 m c) (fun w => (dats m 0 c).arrAt w cfg0.N) 6

/-- The kernel runs; its result is `result`, and its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨?_, ?_, ?_, ?_, ?_, ?_, ?_⟩) (run_main m ρ)
  · exact ((h c).2 main_v4 (Pipeline.mem_restRefs_of main_v4 (by decide) (by decide))).trans (tail_eq m c)
  · exact ((h c).2 main_arg0 (Pipeline.mem_restRefs_of main_arg0 (by decide) (by decide))).trans (W_main_arg0 m (dats m) c)
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))
  · exact ((h c).2 main_arg3 (Pipeline.mem_restRefs_of main_arg3 (by decide) (by decide))).trans (W_main_arg3 m (dats m) c)
  · exact ((h c).1 4).trans (((dats m 0 c).arrAt_in 4 rfl _).trans ((A_eq m c 4).trans (V_main_arg4 m c)))
  · exact ((h c).2 main_arg5 (Pipeline.mem_restRefs_of main_arg5 (by decide) (by decide))).trans (W_main_arg5 m (dats m) c)

end Cert.KernelIdeal.Final
-- ==== Proof.RefScan.lean ====
module

public import proofs.«01_k».proof.Proof.RefRun
public import proofs.«01_k».proof.Proof.Spec
public import Idealize.ShloMosaic.Lib.Pointwise
public import Idealize.ShloMosaic.Lib.WordCmp

@[expose] public section

/-! The reference's loop: state number `n` holds the weights of the last `n` time steps. -/

set_option maxRecDepth 16384

noncomputable section

namespace Cert.ReferenceIdeal.Trips

open Idealize.ShloMosaic Idealize.ShloMosaic.WordCmp Cert.ReferenceIdeal Cert.ReferenceIdeal.Gen Cert.LookAhead

theorem input0 (a : FVec Ideal S8x512x64x64 .f32) (t : Fin 512) (b : Fin 8) (i l : Fin 64) :
    (Step.init (F := Ideal) a).main_v3_0 (ix4 t b i l) = a (ix4 b t i l) := by
  unfold Step.init Step.A_main_v0
  pointwise

theorem carry0 (a : FVec Ideal S8x512x64x64 .f32) (b : Fin 8) (i l : Fin 64) :
    (Step.init (F := Ideal) a).main_v3_2 (ix3 b i l) = 0 := by
  unfold Step.init Step.K_main_v1 Step.K_main_cst
  pointwise

theorem rows0 (a : FVec Ideal S8x512x64x64 .f32) (t : Fin 512) (b : Fin 8) (i l : Fin 64) :
    (Step.init (F := Ideal) a).main_v3_3 (ix4 t b i l) = 0 := by
  unfold Step.init Step.K_main_v2 Step.K_main_cst_0
  pointwise

/-- The pattern of one half. -/
theorem ofBits_half : Ideal.ofBits .f32 0x3F000000#32 = half := by
  unfold half
  simp [Ideal.ofBits, Ideal.ieee, -EReal.coe_mul]; norm_num

/-- The row that trip `n` reads and writes, as a word. -/
theorem row_word (n : ℕ) (hn : n < 512) : (IntOp.subi (IntOp.subi 512#32 (BitVec.ofNat 32 n)) 1#32).toInt = ((511 - n : ℕ) : Int) := by
  have e : IntOp.subi (IntOp.subi 512#32 (BitVec.ofNat 32 n)) 1#32 = BitVec.ofNat 32 (511 - n) := by
    apply BitVec.eq_of_toNat_eq
    unfold IntOp.subi
    simp only [BitVec.toNat_sub, BitVec.toNat_ofNat]
    omega
  rw [e, BitVec.toInt_eq_toNat_of_lt (by rw [BitVec.toNat_ofNat]; omega), BitVec.toNat_ofNat]
  omega

/-- The block that trip `n` touches lies inside the rows. -/
theorem fits (n : ℕ) : S512x8x64x64.Slices (![511 - n, 0, 0, 0] : Fin 4 → ℕ) S1x8x64x64 := by
  refine ⟨rfl, fun k => ?_⟩
  fin_cases k
  · show 511 - n + 1 ≤ 512
    omega
  · exact (by decide : 0 + 8 ≤ 8)
  · exact (by decide : 0 + 64 ≤ 64)
  · exact (by decide : 0 + 64 ≤ 64)

/-- The read's offsets. -/
theorem start_read (s : Step.State Ideal) (n : ℕ) (hn : n < 512) (k : Fin 4) :
    BitVec.toInt (![Step.b3 n s, Step.b4 n s, Step.b5 n s, Step.b6 n s] k (Shape.Idx.first h_S_))
      = (((![511 - n, 0, 0, 0] : Fin 4 → ℕ) k : ℕ) : Int) := by
  fin_cases k
  · exact row_word n hn
  all_goals rfl

theorem b7_eq (s : Step.State Ideal) (n : ℕ) (hn : n < 512) :
    Step.b7 n s = extractStridedSlice S1x8x64x64 (![511 - n, 0, 0, 0] : Fin 4 → ℕ) s.main_v3_0 (fits n) :=
  dynamicSlice_eq_extract _ _ _ _ _ _ (start_read s n hn)

theorem b17_eq (s : Step.State Ideal) (n : ℕ) (hn : n < 512) :
    Step.b17 n s = updateSlice s.main_v3_3 (Step.b13 n s) (![511 - n, 0, 0, 0] : Fin 4 → ℕ) (fits n) :=
  dynamicUpdateSlice_eq_update _ _ _ _ _ _ (start_read s n hn)

theorem b12_apply (s : Step.State Ideal) (n : ℕ) (hn : n < 512) (b : Fin 8) (i l : Fin 64) :
    Step.b12 n s (ix3 b i l) = half * (s.main_v3_2 (ix3 b i l) + s.main_v3_0 (ix4 ⟨511 - n, by omega⟩ b i l)) := by
  unfold Step.b12 Step.b11 Step.b10 Step.b9 Step.b8
  rw [b7_eq s n hn]
  pointwise
  simp only [ofBits_half]

theorem b17_apply (s : Step.State Ideal) (n : ℕ) (hn : n < 512) (t : Fin 512) (b : Fin 8) (i l : Fin 64) :
    Step.b17 n s (ix4 t b i l) = if t.val = 511 - n then Step.b12 n s (ix3 b i l) else s.main_v3_3 (ix4 t b i l) := by
  rw [b17_eq s n hn]
  unfold Step.b13
  pointwise
  by_cases e : t.val = 511 - n
  · rw [if_pos e, dif_pos (by omega)]
  · rw [if_neg e, dif_neg (by omega)]

/-- Before trip `n` the carried row is the weight after `n` steps, the rows of the last `n` time steps are
    written with their weights, and the input is as it was. -/
theorem state_apply (a : FVec Ideal S8x512x64x64 .f32) (n : ℕ) (hn : n ≤ 512) :
    (∀ (t : Fin 512) (b : Fin 8) (i l : Fin 64), (state (F := Ideal) a n).main_v3_0 (ix4 t b i l) = a (ix4 b t i l))
    ∧ (∀ (b : Fin 8) (i l : Fin 64), (state (F := Ideal) a n).main_v3_2 (ix3 b i l) = wt (fun t => a (ix4 b t i l)) n)
    ∧ (∀ (t : Fin 512) (b : Fin 8) (i l : Fin 64), 512 ≤ t.val + n →
        (state (F := Ideal) a n).main_v3_3 (ix4 t b i l) = wt (fun t => a (ix4 b t i l)) (512 - t.val)) := by
  induction n with
  | zero => exact ⟨input0 a, carry0 a, fun t b i l h => absurd t.isLt (by omega)⟩
  | succ n ih =>
    obtain ⟨h0, h2, h3⟩ := ih (by omega)
    have hc : ∀ (b : Fin 8) (i l : Fin 64), Step.b12 n (state (F := Ideal) a n) (ix3 b i l) = wt (fun t => a (ix4 b t i l)) (n + 1) :=
      fun b i l => by rw [b12_apply _ n (by omega), h2, h0]; rfl
    refine ⟨h0, hc, fun t b i l h => ?_⟩
    refine (b17_apply (state (F := Ideal) a n) n (by omega) t b i l).trans ?_
    by_cases e : t.val = 511 - n
    · rw [if_pos e, hc, e]
      congr 1
      omega
    · rw [if_neg e]
      exact h3 t b i l (by omega)

/-- The rows after all 512 trips: the weights. -/
theorem rows_final (a : FVec Ideal S8x512x64x64 .f32) (t : Fin 512) (b : Fin 8) (i l : Fin 64) :
    (state (F := Ideal) a 512).main_v3_3 (ix4 t b i l) = wt (fun t => a (ix4 b t i l)) (512 - t.val) :=
  (state_apply a 512 le_rfl).2.2 t b i l (by omega)

end Cert.ReferenceIdeal.Trips
-- ==== Proof.RefDiag.lean ====
module

public import proofs.«01_k».proof.Proof.Gen.ReferenceIdeal
public import Idealize.ShloMosaic.Lib.Pointwise
public import Idealize.ShloMosaic.Lib.WordCmp
public import Idealize.ShloMosaic.Lib.Routing.OpsSet

@[expose] public section

/-! The reference's diagonal write: every update lands on the diagonal of its own matrix, and every diagonal entry is hit. -/

set_option maxRecDepth 16384

noncomputable section

namespace Cert.ReferenceIdeal.Value

open Idealize.ShloMosaic Idealize.ShloMosaic.Routing Idealize.ShloMosaic.WordCmp Cert.ReferenceIdeal Cert.ReferenceIdeal.Gen

/-- The numbers 0 … 63, negative ones wrapped around (there are none). -/
def count : IVec S64 32 :=
  select (cmpi .slt (iotaInDim S64 32 0) (broadcastInDim S64 ![] bcast_S_S64 (constantI S_ 32 0#32)))
    (addi (iotaInDim S64 32 0) (broadcastInDim S64 ![] bcast_S_S64 (constantI S_ 32 64#32))) (iotaInDim S64 32 0)

/-- Row `k` of the index table is `(k, k)`. -/
def table : IVec S64x2 32 :=
  concatenate S64x2 1 [⟨S64x1, broadcastInDim S64x1 ![0] bcast_S64_S64x1_0 count⟩, ⟨S64x1, broadcastInDim S64x1 ![0] bcast_S64_S64x1_0 count⟩]
    concatenates_S64x1_S64x1_S64x2_d1

/-- The weights with ones on the diagonal. -/
def ones (w : FVec Ideal S4096x64x64 .f32) : FVec Ideal S4096x64x64 .f32 :=
  Host.scatter scatter_S4096x64x64_S64x2_S4096x64_0_12_12_1 (fun _ b => b) w table (broadcastInDim S4096x64 ![] bcast_S_S4096x64 (constant S_ .f32 0x3F800000#32))

theorem count_apply (k : Fin 64) : count (ix1 k) = BitVec.ofNat 32 k.val := by
  pointwise [count]
  exact wrap_of_lt _ _ (by rw [BitVec.toNat_ofNat, Nat.mod_eq_of_lt (by omega)]; omega)

theorem table_apply (k : Fin 64) (q : Fin 2) : table (ix2 k q) = BitVec.ofNat 32 k.val := by
  have h := count_apply k
  unfold table
  generalize count = f at h ⊢
  rw [← h]
  fin_cases q
  · pointwise
  · pointwise

theorem word_toInt (k : Fin 64) : (BitVec.ofNat 32 k.val).toInt = (k.val : Int) := by
  rw [BitVec.toInt_eq_toNat_of_lt (by rw [BitVec.toNat_ofNat, Nat.mod_eq_of_lt (by omega)]; omega), BitVec.toNat_ofNat, Nat.mod_eq_of_lt (by omega)]

/-- Update `(n, k)` lands at `(n', i, l)` exactly when `n = n'` and both `i` and `l` are `k`. -/
theorem lands (n n' : Fin 4096) (k i l : Fin 64) :
    scatter_S4096x64x64_S64x2_S4096x64_0_12_12_1.resultIdx? (ix2 n k) table = some (ix3 n' i l) ↔ n = n' ∧ k = i ∧ k = l := by
  have s0 : scatter_S4096x64x64_S64x2_S4096x64_0_12_12_1.start (ix2 n k) table 0 = 0 := by
    unfold ScatterDims.start
    rw [dif_neg (by decide)]
  have s1 : scatter_S4096x64x64_S64x2_S4096x64_0_12_12_1.start (ix2 n k) table 1 = (k.val : Int) := by
    unfold ScatterDims.start
    rw [dif_pos (by decide), ← word_toInt k, ← table_apply k 0]
    congr 2
    funext b
    match b with
    | ⟨0, _⟩ => rfl
    | ⟨1, _⟩ => rfl
  have s2 : scatter_S4096x64x64_S64x2_S4096x64_0_12_12_1.start (ix2 n k) table 2 = (k.val : Int) := by
    unfold ScatterDims.start
    rw [dif_pos (by decide), ← word_toInt k, ← table_apply k 1]
    congr 2
    funext b
    match b with
    | ⟨0, _⟩ => rfl
    | ⟨1, _⟩ => rfl
  have w0 : scatter_S4096x64x64_S64x2_S4096x64_0_12_12_1.window (ix2 n k) 0 = n.val := by rfl
  have w1 : scatter_S4096x64x64_S64x2_S4096x64_0_12_12_1.window (ix2 n k) 1 = 0 := by rfl
  have w2 : scatter_S4096x64x64_S64x2_S4096x64_0_12_12_1.window (ix2 n k) 2 = 0 := by rfl
  rw [resultIdx?_eq_some]
  constructor
  · intro h
    have h0 := h 0
    have h1 := h 1
    have h2 := h 2
    rw [s0, w0] at h0
    rw [s1, w1] at h1
    rw [s2, w2] at h2
    change _ = ((n'.val : ℕ) : Int) at h0
    change _ = ((i.val : ℕ) : Int) at h1
    change _ = ((l.val : ℕ) : Int) at h2
    exact ⟨Fin.ext (by omega), Fin.ext (by omega), Fin.ext (by omega)⟩
  · rintro ⟨rfl, rfl, rfl⟩ a
    match a with
    | ⟨0, _⟩ => show ScatterDims.start _ _ _ 0 + (ScatterDims.window _ _ 0 : Int) = (n.val : Int); rw [s0, w0]; omega
    | ⟨1, _⟩ => show ScatterDims.start _ _ _ 1 + (ScatterDims.window _ _ 1 : Int) = (k.val : Int); rw [s1, w1]; omega
    | ⟨2, _⟩ => show ScatterDims.start _ _ _ 2 + (ScatterDims.window _ _ 2 : Int) = (k.val : Int); rw [s2, w2]; omega

theorem one_apply (j : S4096x64.Idx) : broadcastInDim S4096x64 ![] bcast_S_S4096x64 (constant (F := Ideal) S_ .f32 0x3F800000#32) j = (1 : EReal) := by
  pointwise

theorem ones_apply (w : FVec Ideal S4096x64x64 .f32) (n : Fin 4096) (i l : Fin 64) : ones w (ix3 n i l) = if i = l then 1 else w (ix3 n i l) := by
  unfold ones
  split_ifs with h
  · subst h
    exact scatter_set_hit _ _ _ _ _ _ (fun k _ => one_apply k) (ix2 n i) ((lands n n i i i).mpr ⟨rfl, rfl, rfl⟩)
  · refine scatter_set_miss _ _ _ _ _ fun k => ?_
    rw [eq_ix2 k]
    intro hk
    obtain ⟨-, rfl, e⟩ := (lands _ n _ i l).mp hk
    exact h e

end Cert.ReferenceIdeal.Value
-- ==== Proof.RefSpec.lean ====
module

public import proofs.«01_k».proof.Proof.Spec

@[expose] public section

/-! The reference's two layers as plain formulas over the weights `w` of one time step. -/

noncomputable section

namespace Cert.LookAhead

open Idealize.ShloMosaic

/-- The weights with ones on the diagonal. -/
def radj (w : Fin 64 → Fin 64 → EReal) (i l : Fin 64) : EReal := if i = l then 1 else w i l

/-- The degree of node `i`, at least 1. -/
def rdeg (w : Fin 64 → Fin 64 → EReal) (i : Fin 64) : EReal := max (∑ l, radj w i l) 1

/-- The degree to the power −1/2. -/
def rdis (w : Fin 64 → Fin 64 → EReal) (i : Fin 64) : EReal := Ideal.pow (rdeg w i) ((-(1 / 2) : ℝ) : EReal)

/-- The normalised adjacency. -/
def rnorm (w : Fin 64 → Fin 64 → EReal) (i l : Fin 64) : EReal := rdis w i * radj w i l * rdis w l

/-- One layer: features `f` spread over the normalised adjacency, plus the bias. -/
def layer (w f : Fin 64 → Fin 64 → EReal) (b : Fin 64 → EReal) (i d : Fin 64) : EReal := (∑ y, rnorm w i y * f y d) + b d

/-- Both layers. -/
def rout (w ids W1 : Fin 64 → Fin 64 → EReal) (b1 : Fin 64 → EReal) (W2 : Fin 64 → Fin 64 → EReal) (b2 : Fin 64 → EReal) (i d : Fin 64) : EReal :=
  layer w (fun y d => ∑ e, layer w (fun y e => ∑ q, ids y q * W1 q e) b1 y e * W2 e d) b2 i d

end Cert.LookAhead
-- ==== Proof.RefValue.lean ====
module

public import proofs.«01_k».proof.Proof.RefScan
public import proofs.«01_k».proof.Proof.RefDiag
public import proofs.«01_k».proof.Proof.RefSpec

@[expose] public section

/-! The reference's result, index by index: `rout` of the weights after the loop. -/

set_option maxRecDepth 16384

noncomputable section

namespace Cert.ReferenceIdeal.Value

open Idealize.ShloMosaic Cert.ReferenceIdeal Cert.ReferenceIdeal.Gen Cert.ReferenceIdeal.Trips Cert.LookAhead

/-- The row of batch `b` and position `s` among all 4096. -/
def row (b : Fin 8) (s : Fin 512) : Fin 4096 := ⟨b.val * 512 + s.val, by omega⟩

/-- The loop's weights, one matrix per batch and position. -/
def mats (ws : FVec Ideal S512x8x64x64 .f32) : FVec Ideal S4096x64x64 .f32 :=
  shapeCast _ (transpose S8x512x64x64 [1, 0, 2, 3] ws transposes_S512x8x64x64_S8x512x64x64_1_0_2_3) shapeCasts_S8x512x64x64_S4096x64x64

/-- Degree to the power −1/2, from the weights with ones on the diagonal. -/
def scale (o : FVec Ideal S4096x64x64 .f32) : FVec Ideal S4096x64 .f32 :=
  Host.powf (maximumf (Host.reduceAdd o (constant S_ .f32 0x00000000#32) reducesTo_S4096x64x64_S4096x64_d2 h_S_)
    (broadcastInDim S4096x64 ![] bcast_S_S4096x64 (constant S_ .f32 0x3F800000#32))) (broadcastInDim S4096x64 ![] bcast_S_S4096x64 (constant S_ .f32 0xBF000000#32))

/-- The normalised adjacency. -/
def norm (o : FVec Ideal S4096x64x64 .f32) (s : FVec Ideal S4096x64 .f32) : FVec Ideal S4096x64x64 .f32 :=
  mulf (mulf (broadcastInDim S4096x64x64 ![0, 1, 2] bcast_S4096x64x1_S4096x64x64_0_1_2 (broadcastInDim S4096x64x1 ![0, 1] bcast_S4096x64_S4096x64x1_0_1 s)) o)
    (broadcastInDim S4096x64x64 ![0, 1, 2] bcast_S4096x1x64_S4096x64x64_0_1_2 (broadcastInDim S4096x1x64 ![0, 2] bcast_S4096x64_S4096x1x64_0_2 s))

/-- One layer on features `x`. -/
def spread (n x : FVec Ideal S4096x64x64 .f32) (W : FVec Ideal S64x64 .f32) (b : FVec Ideal S64 .f32) : FVec Ideal S4096x64x64 .f32 :=
  addf (Host.dotGeneral dot_S4096x64x64_S4096x64x64_S4096x64x64_2_1_1_2_0_0 none n (Host.dotGeneral dot_S4096x64x64_S64x64_S4096x64x64_2_0_01_1_n_n none x W))
    (broadcastInDim S4096x64x64 ![0, 1, 2] bcast_S1x1x64_S4096x64x64_0_1_2 (broadcastInDim S1x1x64 ![2] bcast_S64_S1x1x64_2 b))

/-- The node features, repeated for every batch and position. -/
def repeated (ids : FVec Ideal S64x64 .f32) : FVec Ideal S4096x64x64 .f32 :=
  shapeCast _ (broadcastInDim S8x512x64x64 ![0, 1, 2, 3] bcast_S1x1x64x64_S8x512x64x64_0_1_2_3 (broadcastInDim S1x1x64x64 ![2, 3] bcast_S64x64_S1x1x64x64_2_3 ids))
    shapeCasts_S8x512x64x64_S4096x64x64

theorem result_parts (s : Step.State Ideal) (x1 x2 : FVec Ideal S64x64 .f32) (x3 : FVec Ideal S64 .f32) (x4 : FVec Ideal S64x64 .f32) (x5 : FVec Ideal S64 .f32) :
    Step.R_main_v73 (F := Ideal) s x1 x2 x3 x4 x5
      = shapeCast _ (spread (norm (ones (mats s.main_v3_3)) (scale (ones (mats s.main_v3_3))))
          (spread (norm (ones (mats s.main_v3_3)) (scale (ones (mats s.main_v3_3)))) (repeated x1) x2 x3) x4 x5) shapeCasts_S4096x64x64_S8x512x64x64 := by
  rfl

theorem ofBits_neg_half : Ideal.ofBits .f32 0xBF000000#32 = ((-(1 / 2) : ℝ) : EReal) := by
  simp [Ideal.ofBits, Ideal.ieee, -EReal.coe_mul]; norm_num

theorem mats_apply (ws : FVec Ideal S512x8x64x64 .f32) (b : Fin 8) (s : Fin 512) (i l : Fin 64) : mats ws (ix3 (row b s) i l) = ws (ix4 s b i l) := by
  unfold mats row
  pointwise

theorem repeated_apply (ids : FVec Ideal S64x64 .f32) (n : Fin 4096) (i d : Fin 64) : repeated ids (ix3 n i d) = ids (ix2 i d) := by
  unfold repeated
  pointwise

theorem scale_apply (o : FVec Ideal S4096x64x64 .f32) (n : Fin 4096) (i : Fin 64) :
    scale o (ix2 n i) = Ideal.pow (max (∑ l, o (ix3 n i l)) 1) ((-(1 / 2) : ℝ) : EReal) := by
  rw [← ofBits_neg_half]
  pointwise [scale]

theorem norm_apply (o : FVec Ideal S4096x64x64 .f32) (s : FVec Ideal S4096x64 .f32) (n : Fin 4096) (i l : Fin 64) :
    norm o s (ix3 n i l) = s (ix2 n i) * o (ix3 n i l) * s (ix2 n l) := by
  pointwise [norm]

theorem spread_apply (a x : FVec Ideal S4096x64x64 .f32) (W : FVec Ideal S64x64 .f32) (b : FVec Ideal S64 .f32) (n : Fin 4096) (i d : Fin 64) :
    spread a x W b (ix3 n i d) = (∑ y, a (ix3 n i y) * ∑ e, x (ix3 n y e) * W (ix2 e d)) + b (ix1 d) := by
  pointwise [spread]

theorem cast_apply (o : FVec Ideal S4096x64x64 .f32) (b : Fin 8) (s : Fin 512) (i l : Fin 64) :
    shapeCast S8x512x64x64 o shapeCasts_S4096x64x64_S8x512x64x64 (ix4 b s i l) = o (ix3 (row b s) i l) := by
  unfold row
  pointwise

/-- The reference's result. -/
theorem result_apply (a : FVec Ideal S8x512x64x64 .f32) (x1 x2 : FVec Ideal S64x64 .f32) (x3 : FVec Ideal S64 .f32) (x4 : FVec Ideal S64x64 .f32) (x5 : FVec Ideal S64 .f32)
    (b : Fin 8) (s : Fin 512) (i d : Fin 64) :
    Step.R_main_v73 (state (F := Ideal) a 512) x1 x2 x3 x4 x5 (ix4 b s i d)
      = rout (fun i l => wt (fun t => a (ix4 b t i l)) (512 - s.val)) (fun i l => x1 (ix2 i l)) (fun i l => x2 (ix2 i l)) (fun d => x3 (ix1 d))
          (fun i l => x4 (ix2 i l)) (fun d => x5 (ix1 d)) i d := by
  rw [result_parts]
  have hm : ∀ i l, ones (mats (state (F := Ideal) a 512).main_v3_3) (ix3 (row b s) i l)
      = radj (fun i l => wt (fun t => a (ix4 b t i l)) (512 - s.val)) i l := fun i l => by
    rw [ones_apply, mats_apply, rows_final]
    rfl
  generalize ones (mats (state (F := Ideal) a 512).main_v3_3) = o at hm ⊢
  rw [cast_apply, spread_apply]
  unfold rout layer rnorm rdis rdeg
  simp only [norm_apply, scale_apply, spread_apply, repeated_apply, hm]

end Cert.ReferenceIdeal.Value
-- ==== Proof.Layers.lean ====
module

public import proofs.«01_k».proof.Proof.RefSpec

@[expose] public section

/-! The kernel's two layers equal the reference's when the weights are not negative and the features and maps are finite. -/

noncomputable section

namespace Cert.LookAhead

open Idealize.ShloMosaic

variable {ι : Type} [Fintype ι]

theorem coe_total (f : ι → ℝ) : ((∑ x, f x : ℝ) : EReal) = ∑ x, (f x : EReal) := by
  classical
  have : ∀ s : Finset ι, ((∑ x ∈ s, f x : ℝ) : EReal) = ∑ x ∈ s, (f x : EReal) := fun s => by
    induction s using Finset.induction_on with
    | empty => simp
    | insert a s h ih => rw [Finset.sum_insert h, Finset.sum_insert h, EReal.coe_add, ih]
  exact this _

/-- A finite factor distributes over a sum whose first term is finite. -/
theorem add_mul_coe (r w : ℝ) (b : EReal) : ((r : EReal) + b) * w = r * w + b * w := by
  induction b with
  | coe b => exact_mod_cast add_mul r b w
  | bot =>
    rw [EReal.add_bot]
    rcases lt_trichotomy w 0 with h | rfl | h
    · rw [EReal.bot_mul_coe_of_neg h, ← EReal.coe_mul, EReal.coe_add_top]
    · simp
    · rw [EReal.bot_mul_coe_of_pos h, ← EReal.coe_mul, EReal.add_bot]
  | top =>
    rw [EReal.coe_add_top]
    rcases lt_trichotomy w 0 with h | rfl | h
    · rw [EReal.top_mul_coe_of_neg h, ← EReal.coe_mul, EReal.add_bot]
    · simp
    · rw [EReal.top_mul_coe_of_pos h, ← EReal.coe_mul, EReal.coe_add_top]

/-- The weights stay nonnegative. -/
theorem wt_nonneg (x : Fin 512 → EReal) (h : ∀ i, 0 ≤ x i) : ∀ n, 0 ≤ wt x n
  | 0 => le_rfl
  | n + 1 => by
    have : 0 ≤ half := by
      unfold half
      exact EReal.coe_nonneg.mpr (by norm_num)
    exact mul_nonneg this (add_nonneg (wt_nonneg x h n) (h _))

/-- On degrees of at least 1 the reciprocal square root is the power −1/2. -/
theorem rsqrt_eq_pow (d : EReal) (h : 1 ≤ d) : Ideal.rsqrt d = Ideal.pow d ((-(1 / 2) : ℝ) : EReal) := by
  induction d with
  | bot => exact absurd h (not_le.mpr (EReal.bot_lt_coe 1))
  | top => rw [Ideal.rsqrt_top, Ideal.pow_top, if_neg, if_neg] <;> norm_cast <;> norm_num
  | coe r =>
    have hr : 1 ≤ r := by exact_mod_cast h
    rw [Ideal.rsqrt_coe, if_neg (by linarith), if_neg (by linarith), Ideal.pow_coe_coe]
    congr 1
    change _ = r ^ (-(1 / 2) : ℝ)
    rw [Real.rpow_neg (by linarith), ← Real.sqrt_eq_rpow]

/-- The power −1/2 of a degree of at least 1 is finite. -/
theorem pow_finite (d : EReal) (h : 1 ≤ d) : ∃ r : ℝ, Ideal.pow d ((-(1 / 2) : ℝ) : EReal) = r := by
  induction d with
  | bot => exact absurd h (not_le.mpr (EReal.bot_lt_coe 1))
  | top => exact ⟨0, by rw [Ideal.pow_top, if_neg, if_neg] <;> norm_cast <;> norm_num⟩
  | coe r => exact ⟨_, Ideal.pow_coe_coe _ _⟩

section degrees

variable (w : Fin 64 → Fin 64 → EReal) (hw : ∀ i l, 0 ≤ w i l)
include hw

theorem radj_nonneg (i l : Fin 64) : 0 ≤ radj w i l := by
  unfold radj
  split_ifs
  · exact zero_le_one
  · exact hw i l

/-- A degree bounds each of its terms. -/
theorem radj_le (i l : Fin 64) : radj w i l ≤ ∑ x, radj w i x :=
  Finset.single_le_sum (f := fun x => radj w i x) (fun x _ => radj_nonneg w hw i x) (Finset.mem_univ l)

/-- The diagonal already makes the degree at least 1. -/
theorem rdeg_eq (i : Fin 64) : rdeg w i = ∑ x, radj w i x := by
  unfold rdeg
  refine max_eq_left (le_trans (le_of_eq ?_) (radj_le w hw i i))
  unfold radj
  rw [if_pos rfl]

theorem one_le_rdeg (i : Fin 64) : 1 ≤ rdeg w i := le_max_right _ _

/-- The normalised adjacency is finite: where a weight is infinite, so is its row's degree, and the power is 0. -/
theorem rnorm_finite (i l : Fin 64) : ∃ r : ℝ, rnorm w i l = r := by
  obtain ⟨p, hp⟩ := pow_finite _ (one_le_rdeg w hw i)
  obtain ⟨q, hq⟩ := pow_finite _ (one_le_rdeg w hw l)
  have e : rnorm w i l = Ideal.pow (rdeg w i) ((-(1 / 2) : ℝ) : EReal) * radj w i l * Ideal.pow (rdeg w l) ((-(1 / 2) : ℝ) : EReal) := rfl
  by_cases ht : radj w i l = ⊤
  · have hd : rdeg w i = ⊤ := by
      rw [rdeg_eq w hw]
      exact top_le_iff.mp (ht ▸ radj_le w hw i l)
    have h0 : Ideal.pow ⊤ ((-(1 / 2) : ℝ) : EReal) = 0 := by
      rw [Ideal.pow_top, if_neg, if_neg] <;> norm_cast <;> norm_num
    exact ⟨0, by rw [e, hd, h0, zero_mul, zero_mul]; rfl⟩
  · have hb : radj w i l ≠ ⊥ := fun h => absurd (radj_nonneg w hw i l) (by rw [h]; simp)
    exact ⟨p * (radj w i l).toReal * q, by rw [e, hp, hq, EReal.coe_mul, EReal.coe_mul, EReal.coe_toReal ht hb]⟩

end degrees

/-- The masks of the kernel: off and on the diagonal. -/
def offMask (i l : Fin 64) : EReal := if i = l then 0 else 1
def onMask (i l : Fin 64) : EReal := if i = l then 1 else 0

theorem masked (w : Fin 64 → Fin 64 → EReal) (i l : Fin 64) : w i l * offMask i l + onMask i l = radj w i l := by
  unfold offMask onMask radj
  split_ifs <;> simp

theorem kdeg_eq (w : Fin 64 → Fin 64 → EReal) (i : Fin 64) : kdeg w offMask i = ∑ x, radj w i x := by
  unfold kdeg
  rw [Finset.sum_congr rfl fun x _ => (masked w i x).symm, Finset.sum_add_distrib]
  congr 1
  unfold onMask
  rw [Finset.sum_ite_eq]
  simp

/-- The kernel's normalised adjacency is the reference's. -/
theorem kadj_eq (w : Fin 64 → Fin 64 → EReal) (hw : ∀ i l, 0 ≤ w i l) (i l : Fin 64) : kadj w offMask onMask i l = rnorm w i l := by
  unfold kadj rnorm rdis
  rw [masked, kdeg_eq, kdeg_eq, ← rdeg_eq w hw, ← rdeg_eq w hw, rsqrt_eq_pow _ (one_le_rdeg w hw i), rsqrt_eq_pow _ (one_le_rdeg w hw l), mul_comm (radj w i l)]

/-- A layer followed by a map: the map moves inside, to the features and to the bias. -/
theorem map_layer (a h : Fin 64 → ℝ) (h' : Fin 64 → Fin 64 → ℝ) (v : Fin 64 → ℝ) (b : Fin 64 → EReal) :
    (∑ e, ((∑ y, (a y : EReal) * (h' y e : EReal)) + b e) * (v e : EReal))
      = (∑ y, (a y : EReal) * ∑ e, (h' y e : EReal) * (v e : EReal)) + ∑ e, b e * (v e : EReal) := by
  have e1 : ∀ e, ((∑ y, (a y : EReal) * (h' y e : EReal)) + b e) * (v e : EReal) = (((∑ y, a y * h' y e) * v e : ℝ) : EReal) + b e * v e := fun e => by
    rw [EReal.coe_mul, ← add_mul_coe, coe_total]
    simp only [EReal.coe_mul]
  have e2 : ∀ y, (a y : EReal) * ∑ e, (h' y e : EReal) * (v e : EReal) = ((a y * ∑ e, h' y e * v e : ℝ) : EReal) := fun y => by
    rw [EReal.coe_mul, coe_total]
    simp only [EReal.coe_mul]
  rw [Finset.sum_congr rfl fun e _ => e1 e, Finset.sum_congr rfl fun y _ => e2 y, Finset.sum_add_distrib, ← coe_total, ← coe_total]
  congr 2
  simp only [Finset.sum_mul, Finset.mul_sum]
  rw [Finset.sum_comm]
  exact Finset.sum_congr rfl fun y _ => Finset.sum_congr rfl fun e _ => mul_assoc _ _ _

/-- Both layers agree. -/
theorem kout_eq (w ids W1 W2 : Fin 64 → Fin 64 → EReal) (b1 b2 : Fin 64 → EReal) (hw : ∀ i l, 0 ≤ w i l)
    (hids : ∀ i l, ∃ r : ℝ, ids i l = r) (h1 : ∀ i l, ∃ r : ℝ, W1 i l = r) (h2 : ∀ i l, ∃ r : ℝ, W2 i l = r) (i d : Fin 64) :
    kout w offMask onMask (fun y d => ∑ e, (∑ q, ids y q * W1 q e) * W2 e d) (fun d => ∑ e, b1 e * W2 e d) b2 i d = rout w ids W1 b1 W2 b2 i d := by
  choose f hf using hids
  choose u hu using h1
  choose v hv using h2
  choose a ha using rnorm_finite w hw
  have hh : ∀ y e, (∑ q, ids y q * W1 q e) = ((∑ q, f y q * u q e : ℝ) : EReal) := fun y e => by
    rw [coe_total]
    simp only [hf, hu, EReal.coe_mul]
  unfold kout rout layer
  congr 1
  refine Finset.sum_congr rfl fun x _ => ?_
  rw [kadj_eq w hw]
  congr 1
  simp only [kadj_eq w hw, hh, ha, hv]
  exact (map_layer (a x) (a x) (fun y e => ∑ q, f y q * u q e) (fun e => v e d) b1).symm

end Cert.LookAhead
-- ==== Proof.Given.lean ====
module

public import proofs.«01_k».proof.Proof.Gen.Pre_nonneg_adj_finite_maps
public import Idealize.ShloMosaic.Lib.ReduceAll
public import Idealize.ShloMosaic.Lib.Pointwise

@[expose] public section

/-! What the precondition says, element by element. -/

set_option maxRecDepth 16384

noncomputable section

namespace Cert.Given

open Idealize.ShloMosaic Cert.Pre_nonneg_adj_finite_maps Cert.Pre_nonneg_adj_finite_maps.Gen

theorem ofBits_inf : Ideal.ofBits .f32 0x7F800000#32 = ⊤ := by
  simp [Ideal.ofBits, Ideal.ieee]

/-- A magnitude below infinity is a real number. -/
theorem real_of_abs_lt (x : EReal) (h : max x (-x) < ⊤) : ∃ r : ℝ, x = r := by
  induction x with
  | coe r => exact ⟨r, rfl⟩
  | bot => simp at h
  | top => simp at h

instance : Subsingleton S_.Idx := ⟨fun a b => funext fun k => k.elim0⟩

/-- A matrix whose magnitudes all test below infinity is finite. -/
theorem finite_of_all (x : FVec Ideal S64x64 .f32) (j : S_.Idx)
    (e : Host.reduce IntOp.andi (cmpf .olt (Host.absf x) (broadcastInDim S64x64 ![] bcast_S_S64x64 (constant S_ .f32 0x7F800000#32))) (constantI S_ 1 1#1)
      reducesTo_S64x64_S_d0_1 h_S_ j = 1#1) (i l : Fin 64) : ∃ r : ℝ, x (ix2 i l) = r := by
  have h := Host.reduce_andi_all _ _ _ _ j e (ix2 i l)
  refine real_of_abs_lt _ ?_
  rw [← ofBits_inf]
  exact (Ideal.cmp_olt_eq_one _ _).mp h

/-- The precondition: no adjacency entry is negative, and the features and both maps are finite. -/
theorem read (a : FVec Ideal S8x512x64x64 .f32) (x1 x2 : FVec Ideal S64x64 .f32) (x3 : FVec Ideal S64 .f32) (x4 : FVec Ideal S64x64 .f32) (x5 : FVec Ideal S64 .f32)
    (h : fn (F := Ideal) a x1 x2 x3 x4 x5 = fun _ => 1#1) :
    (∀ j, (0 : EReal) ≤ a j) ∧ (∀ i l, ∃ r : ℝ, x1 (ix2 i l) = r) ∧ (∀ i l, ∃ r : ℝ, x2 (ix2 i l) = r) ∧ ∀ i l, ∃ r : ℝ, x4 (ix2 i l) = r := by
  have e := congrFun h (fun k => k.elim0)
  unfold fn fn_part1 at e
  dsimp only at e
  obtain ⟨e, e4⟩ := IntOp.andi_eq_one.mp e
  obtain ⟨e, e2⟩ := IntOp.andi_eq_one.mp e
  obtain ⟨e, e1⟩ := IntOp.andi_eq_one.mp e
  refine ⟨fun j => ?_, finite_of_all x1 _ e1, finite_of_all x2 _ e2, finite_of_all x4 _ e4⟩
  have hj := (Ideal.cmp_oge_eq_one _ _).mp (Host.reduce_andi_all _ _ _ _ _ e j)
  have z : Ideal.ofBits .f32 0x00000000#32 = 0 := by simp [Ideal.ofBits, Ideal.ieee]
  rw [← z]
  exact hj

end Cert.Given
-- ==== Proof.Equal.lean ====
module

public import proofs.«01_k».proof.Proof.KFinal
public import proofs.«01_k».proof.Proof.RefValue
public import proofs.«01_k».proof.Proof.Layers
public import proofs.«01_k».proof.Proof.Given

@[expose] public section

/-! The equation: under the precondition the kernel's result is the reference's. -/

noncomputable section

namespace Cert.Equal

open Idealize.ShloMosaic Cert.LookAhead

/-- Index by index. -/
theorem value_eq (a : FVec Ideal Cert.Pre_nonneg_adj_finite_maps.S8x512x64x64 .f32) (x1 x2 : FVec Ideal Cert.Pre_nonneg_adj_finite_maps.S64x64 .f32)
    (x3 : FVec Ideal Cert.Pre_nonneg_adj_finite_maps.S64 .f32) (x4 : FVec Ideal Cert.Pre_nonneg_adj_finite_maps.S64x64 .f32)
    (x5 : FVec Ideal Cert.Pre_nonneg_adj_finite_maps.S64 .f32)
    (h : Cert.Pre_nonneg_adj_finite_maps.fn (F := Ideal) a x1 x2 x3 x4 x5 = fun _ => 1#1) (b : Fin 8) (s : Fin 512) (i d : Fin 64) :
    Cert.KernelIdeal.Final.value a x1 x2 x3 x4 x5 b s i d
      = Cert.ReferenceIdeal.Step.R_main_v73 (Cert.ReferenceIdeal.Trips.state (F := Ideal) a 512) x1 x2 x3 x4 x5 (ix4 b s i d) := by
  obtain ⟨ha, h1, h2, h4⟩ := Cert.Given.read a x1 x2 x3 x4 x5 h
  rw [Cert.ReferenceIdeal.Value.result_apply]
  exact kout_eq (fun i l => wt (fun t => a (ix4 b t i l)) (512 - s.val)) (fun i l => x1 (ix2 i l)) (fun i l => x2 (ix2 i l)) (fun i l => x4 (ix2 i l))
    (fun d => x3 (ix1 d)) (fun d => x5 (ix1 d)) (fun i l => wt_nonneg _ (fun t => ha _) _) h1 h2 h4 i d

/-- As arrays. -/
theorem result_eq (m : (ℓ : Loc Cert.KernelIdeal.nD Cert.KernelIdeal.τ Cert.KernelIdeal.sig) → Buf (Elt Ideal) ℓ) (c : Dev Cert.KernelIdeal.nD)
    (h : Cert.Pre_nonneg_adj_finite_maps.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = fun _ => 1#1) :
    Cert.KernelIdeal.Final.result m c
      = Cert.ReferenceIdeal.Step.R_main_v73 (Cert.ReferenceIdeal.Trips.state (F := Ideal)
          (m ((c.tc : Thread Cert.KernelIdeal.nD Cert.KernelIdeal.τ).loc Cert.KernelIdeal.main_arg0)) 512)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) := by
  funext j
  have hj : j = ix4 (j 0) (j 1) (j 2) (j 3) := by
    funext k
    match k with
    | ⟨0, _⟩ => rfl
    | ⟨1, _⟩ => rfl
    | ⟨2, _⟩ => rfl
    | ⟨3, _⟩ => rfl
  rw [hj]
  exact (Cert.KernelIdeal.Final.result_apply m c (j 0) (j 1) (j 2) (j 3)).trans (value_eq _ _ _ _ _ _ h (j 0) (j 1) (j 2) (j 3))

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nonneg_adj_finite_maps
public import proofs.«01_k».proof.Proof.Gen.ReferenceIdeal.Run
public import proofs.«01_k».proof.Proof.Gen.ReferenceIdeal.Step
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs and leaves its arguments as they were; its counters are zero because it declares none. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Trips.run (F := Ideal) m ρ)

/-- Kernel and reference compute the same result. -/
theorem same_result : Cert.algebraic_KernelIdeal_ReferenceIdeal_pre_nonneg_adj_finite_maps := fun m ρ m' ρ' hpre hargs =>
  ⟨fun c => Cert.KernelIdeal.Final.result m c, Cert.KernelIdeal.Final.run m ρ,
    (θ_run Cert.ReferenceIdeal.defs _ _).mono (fun r h c => ⟨(h c).1.trans (by
      obtain ⟨h0, h1, h2, h3, h4, h5⟩ := hargs c
      rw [h0, h1, h2, h3, h4, h5]
      exact (Cert.Equal.result_eq m c (hpre c)).symm), (h c).2⟩) (Cert.ReferenceIdeal.Trips.run (F := Ideal) m' ρ')⟩

theorem claim : Cert.Claim := ⟨Cert.Kernel.Gen.facts, Cert.KernelIdeal.Gen.facts, Cert.ReferenceIdeal.Gen.facts, Cert.Pre_nonneg_adj_finite_maps.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, same_result⟩

end Cert.Proof

end
